-- ==== Defs.lean ====
def Pre_Kernel [hPre_knn_in_range : Cert.Pre_knn_in_range.Facts] (m : (ℓ : Loc Cert.Kernel.nD Cert.Kernel.τ Cert.Kernel.sig) → Buf (Elt Bits) ℓ) : Prop :=
  ∀ c : Dev Cert.Kernel.nD,
    (Cert.Pre_knn_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_knn_in_range : Cert.Pre_knn_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_knn_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_knn_in_range [hPre_knn_in_range : Cert.Pre_knn_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_knn_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_knn_in_range : Cert.Pre_knn_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_knn_in_range : Cert.Pre_knn_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_knn_in_range [hReferenceIdeal : Cert.ReferenceIdeal.Facts] [hPre_knn_in_range : Cert.Pre_knn_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_knn_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "ninth" .f32 0x3DE38E39#32 ((9⁻¹ : ℝ) : EReal)

def algebraic_KernelIdeal_ReferenceIdeal [hKernelIdeal : Cert.KernelIdeal.Facts] [hReferenceIdeal : Cert.ReferenceIdeal.Facts] [hPre_knn_in_range : Cert.Pre_knn_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_knn_in_range : Cert.Pre_knn_in_range.Facts),
    quiescent_Kernel (hKernel := hKernel) (hPre_knn_in_range := hPre_knn_in_range)
    ∧ quiescent_KernelIdeal (hKernelIdeal := hKernelIdeal) (hPre_knn_in_range := hPre_knn_in_range)
    ∧ quiescent_ReferenceIdeal (hReferenceIdeal := hReferenceIdeal)
    ∧ quiescent_ReferenceIdeal_pre_knn_in_range (hReferenceIdeal := hReferenceIdeal) (hPre_knn_in_range := hPre_knn_in_range)
    ∧ preserves_Kernel_KernelIdeal
    ∧ algebraic_KernelIdeal_ReferenceIdeal (hKernelIdeal := hKernelIdeal) (hReferenceIdeal := hReferenceIdeal) (hPre_knn_in_range := hPre_knn_in_range)
-- ==== Pre_knn_in_range.lean ====
abbrev S8x3x512x512 : Shape := ⟨4, ![8, 3, 512, 512]⟩
abbrev S2 : Shape := ⟨1, ![2]⟩
abbrev S_ : Shape := ⟨0, ![]⟩
abbrev S82944x2 : Shape := ⟨2, ![82944, 2]⟩
abbrev S9216x9 : Shape := ⟨2, ![9216, 9]⟩

class Facts : Prop where
  bcast_S_S9216x9 : S_.BroadcastsInDim S9216x9 (![] : Fin 0 → Fin S9216x9.rank)
  reducesTo_S9216x9_S_d0_1 : S9216x9.ReducesTo [0, 1] S_
  h_S_ : 0 < S_.numel

variable [Facts]

def fn {F : FTy → Type} [FloatOps F] (main_arg0 : FVec F S8x3x512x512 .f32) (main_arg1 : FVec F S2 .f32) (main_arg2 : IVec S_ 32) (main_arg3 : FVec F S82944x2 .f32) (main_arg4 : IVec S9216x9 32) : IVec S_ 1 :=
  let main_c : IVec S_ 32 := constantI S_ 32 0#32
  let main_v0 : IVec S9216x9 32 := broadcastInDim S9216x9 ![] bcast_S_S9216x9 main_c
  let main_v1 : IVec S9216x9 1 := cmpi .sge main_arg4 main_v0
  let main_c_0 : IVec S_ 32 := constantI S_ 32 82944#32
  let main_v2 : IVec S9216x9 32 := broadcastInDim S9216x9 ![] bcast_S_S9216x9 main_c_0
  let main_v3 : IVec S9216x9 1 := cmpi .slt main_arg4 main_v2
  let main_v4 : IVec S9216x9 1 := andi main_v1 main_v3
  let main_c_1 : IVec S_ 1 := constantI S_ 1 1#1
  let main_v5 : IVec S_ 1 := (fun x v => Host.reduce IntOp.andi x v reducesTo_S9216x9_S_d0_1 h_S_) main_v4 main_c_1
  main_v5
-- ==== Kernel.lean ====
abbrev S8x3x512x512 : Shape := ⟨4, ![8, 3, 512, 512]⟩
abbrev S2 : Shape := ⟨1, ![2]⟩
abbrev S_ : Shape := ⟨0, ![]⟩
abbrev S82944x2 : Shape := ⟨2, ![82944, 2]⟩
abbrev S9216x9 : Shape := ⟨2, ![9216, 9]⟩
abbrev S6291456 : Shape := ⟨1, ![6291456]⟩
abbrev S82944x1 : Shape := ⟨2, ![82944, 1]⟩
abbrev S82944 : Shape := ⟨1, ![82944]⟩
abbrev S32x288x9 : Shape := ⟨3, ![32, 288, 9]⟩
abbrev S32x9x288 : Shape := ⟨3, ![32, 9, 288]⟩
abbrev S32x2592 : Shape := ⟨2, ![32, 2592]⟩
abbrev S1 : Shape := ⟨1, ![1]⟩
abbrev S16 : Shape := ⟨1, ![16]⟩
abbrev S1x16 : Shape := ⟨2, ![1, 16]⟩
abbrev S3x16 : Shape := ⟨2, ![3, 16]⟩
abbrev S221184 : Shape := ⟨1, ![221184]⟩
abbrev S2592 : Shape := ⟨1, ![2592]⟩
abbrev S288 : Shape := ⟨1, ![288]⟩
abbrev S1x2592 : Shape := ⟨2, ![1, 2592]⟩
abbrev S262144 : Shape := ⟨1, ![262144]⟩
abbrev S8x3x9216 : Shape := ⟨3, ![8, 3, 9216]⟩

abbrev nBuf : Table → Nat
  | .hbm => 29
  | .local .scVector .vmem => 9
  | _ => 0

abbrev bufTy : (tb : Table) → Fin (nBuf tb) → BufTy
  | .hbm, ⟨0, _⟩ => ⟨S8x3x512x512, .f32⟩
  | .hbm, ⟨1, _⟩ => ⟨S2, .f32⟩
  | .hbm, ⟨2, _⟩ => ⟨S_, .i32⟩
  | .hbm, ⟨3, _⟩ => ⟨S82944x2, .f32⟩
  | .hbm, ⟨4, _⟩ => ⟨S9216x9, .i32⟩
  | .hbm, ⟨5, _⟩ => ⟨S6291456, .f32⟩
  | .hbm, ⟨6, _⟩ => ⟨S82944x1, .f32⟩
  | .hbm, ⟨7, _⟩ => ⟨S82944, .f32⟩
  | .hbm, ⟨8, _⟩ => ⟨S82944x1, .f32⟩
  | .hbm, ⟨9, _⟩ => ⟨S82944, .f32⟩
  | .hbm, ⟨10, _⟩ => ⟨S32x288x9, .i32⟩
  | .hbm, ⟨11, _⟩ => ⟨S32x9x288, .i32⟩
  | .hbm, ⟨12, _⟩ => ⟨S32x2592, .i32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S16, .f32⟩
  | .hbm, ⟨19, _⟩ => ⟨S1, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S3x16, .f32⟩
  | .hbm, ⟨27, _⟩ => ⟨S221184, .f32⟩
  | .hbm, ⟨28, _⟩ => ⟨S8x3x9216, .f32⟩
  | .local .scVector .vmem, ⟨0, _⟩ => ⟨S2592, .i32⟩
  | .local .scVector .vmem, ⟨1, _⟩ => ⟨S2592, .f32⟩
  | .local .scVector .vmem, ⟨2, _⟩ => ⟨S2592, .f32⟩
  | .local .scVector .vmem, ⟨3, _⟩ => ⟨S2592, .i32⟩
  | .local .scVector .vmem, ⟨4, _⟩ => ⟨S2592, .f32⟩
  | .local .scVector .vmem, ⟨5, _⟩ => ⟨S2592, .f32⟩
  | .local .scVector .vmem, ⟨6, _⟩ => ⟨S2592, .f32⟩
  | .local .scVector .vmem, ⟨7, _⟩ => ⟨S288, .f32⟩
  | .local .scVector .vmem, ⟨8, _⟩ => ⟨S3x16, .f32⟩
  | _, _ => ⟨S8x3x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v0_scv : Ref sig .scVector := ⟨.hbm, 5, rfl⟩
abbrev main_v2_scv : Ref sig .scVector := ⟨.hbm, 7, rfl⟩
abbrev main_v4_scv : Ref sig .scVector := ⟨.hbm, 9, rfl⟩
abbrev main_v20_scv : Ref sig .scVector := ⟨.hbm, 26, rfl⟩
abbrev main_v7_scv : Ref sig .scVector := ⟨.hbm, 12, rfl⟩
abbrev main_v21_scv : Ref sig .scVector := ⟨.hbm, 27, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_227_r1 : BitVec 32 := 0#32
  ![v1.toNat, 0]
@[reducible] def k0_t1_loop : Scf.Loop 32 :=
  let c0_i32_8 : BitVec 32 := 0#32
  let c162_i32 : BitVec 32 := 162#32
  let v15 : BitVec 32 := Scalar.addi c0_i32_8 c162_i32
  let c1_i32_9 : BitVec 32 := 1#32
  ⟨c0_i32_8, v15, c1_i32_9⟩
def k0_off2 (k0_t1 : Fin k0_t1_loop.trips) : Fin 1 → Nat :=
  let c0_i32_8 : BitVec 32 := 0#32
  let c1_i32_9 : BitVec 32 := 1#32
  let arg19 : BitVec 32 := Scf.iv c0_i32_8 c1_i32_9 k0_t1
  let c16_i32 : BitVec 32 := 16#32
  let v184 : BitVec 32 := Scalar.muli arg19 c16_i32
  let v185 : Index := Scalar.indexCast v184
  ![v185.toNat]
@[reducible] def k0_t2_loop : Scf.Loop 32 :=
  let c0_i32_17 : BitVec 32 := 0#32
  let c18_i32 : BitVec 32 := 18#32
  let v22 : BitVec 32 := Scalar.addi c0_i32_17 c18_i32
  let c1_i32_18 : BitVec 32 := 1#32
  ⟨c0_i32_17, v22, c1_i32_18⟩
def k0_off3 (k0_t2 : Fin k0_t2_loop.trips) : Fin 1 → Nat :=
  let c0_i32_17 : BitVec 32 := 0#32
  let c1_i32_18 : BitVec 32 := 1#32
  let arg19 : BitVec 32 := Scf.iv c0_i32_17 c1_i32_18 k0_t2
  let c16_i32 : BitVec 32 := 16#32
  let v184 : BitVec 32 := Scalar.muli arg19 c16_i32
  let v185 : Index := Scalar.indexCast v184
  ![v185.toNat]
def k0_off4 (k0_t2 : Fin k0_t2_loop.trips) (c288_i32_227 : BitVec 32) : Fin 1 → Nat :=
  let c0_i32_17 : BitVec 32 := 0#32
  let c1_i32_18 : BitVec 32 := 1#32
  let arg19 : BitVec 32 := Scf.iv c0_i32_17 c1_i32_18 k0_t2
  let c16_i32 : BitVec 32 := 16#32
  let v184 : BitVec 32 := Scalar.muli arg19 c16_i32
  let v192 : BitVec 32 := Scalar.addi c288_i32_227 v184
  let v193 : Index := Scalar.indexCast v192
  ![v193.toNat]
def k0_off5 (k0_t2 : Fin k0_t2_loop.trips) : Fin 1 → Nat :=
  let c0_i32_17 : BitVec 32 := 0#32
  let c1_i32_18 : BitVec 32 := 1#32
  let arg19 : BitVec 32 := Scf.iv c0_i32_17 c1_i32_18 k0_t2
  let c16_i32 : BitVec 32 := 16#32
  let v184 : BitVec 32 := Scalar.muli arg19 c16_i32
  let v264 : Index := Scalar.indexCast v184
  ![v264.toNat]
def k0_off6 (i : grid0.Coords) (c0_i32_20 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c288_i32 : BitVec 32 := 288#32
  let v23 : BitVec 32 := Scalar.muli v1 c288_i32
  let v24 : BitVec 32 := Scalar.addi c0_i32_20 v23
  ![v24.toNat]
@[reducible] def k0_t3_loop : Scf.Loop 32 :=
  let c0_i32_25 : BitVec 32 := 0#32
  let c18_i32_26 : BitVec 32 := 18#32
  let v29 : BitVec 32 := Scalar.addi c0_i32_25 c18_i32_26
  let c1_i32_27 : BitVec 32 := 1#32
  ⟨c0_i32_25, v29, c1_i32_27⟩
def k0_off7 (k0_t3 : Fin k0_t3_loop.trips) : Fin 1 → Nat :=
  let c0_i32_25 : BitVec 32 := 0#32
  let c1_i32_27 : BitVec 32 := 1#32
  let arg19 : BitVec 32 := Scf.iv c0_i32_25 c1_i32_27 k0_t3
  let c16_i32 : BitVec 32 := 16#32
  let v184 : BitVec 32 := Scalar.muli arg19 c16_i32
  let v185 : Index := Scalar.indexCast v184
  ![v185.toNat]
def k0_off8 (k0_t3 : Fin k0_t3_loop.trips) (c288_i32_227 : BitVec 32) : Fin 1 → Nat :=
  let c0_i32_25 : BitVec 32 := 0#32
  let c1_i32_27 : BitVec 32 := 1#32
  let arg19 : BitVec 32 := Scf.iv c0_i32_25 c1_i32_27 k0_t3
  let c16_i32 : BitVec 32 := 16#32
  let v184 : BitVec 32 := Scalar.muli arg19 c16_i32
  let v192 : BitVec 32 := Scalar.addi c288_i32_227 v184
  let v193 : Index := Scalar.indexCast v192
  ![v193.toNat]
def k0_off9 (k0_t3 : Fin k0_t3_loop.trips) : Fin 1 → Nat :=
  let c0_i32_25 : BitVec 32 := 0#32
  let c1_i32_27 : BitVec 32 := 1#32
  let arg19 : BitVec 32 := Scf.iv c0_i32_25 c1_i32_27 k0_t3
  let c16_i32 : BitVec 32 := 16#32
  let v184 : BitVec 32 := Scalar.muli arg19 c16_i32
  let v264 : Index := Scalar.indexCast v184
  ![v264.toNat]
@[reducible] def k0_t4_loop : Scf.Loop 32 :=
  let c0_i32_34 : BitVec 32 := 0#32
  let c18_i32_35 : BitVec 32 := 18#32
  let v36 : BitVec 32 := Scalar.addi c0_i32_34 c18_i32_35
  let c1_i32_36 : BitVec 32 := 1#32
  ⟨c0_i32_34, v36, c1_i32_36⟩
def k0_off10 (k0_t4 : Fin k0_t4_loop.trips) : Fin 1 → Nat :=
  let c0_i32_34 : BitVec 32 := 0#32
  let c1_i32_36 : BitVec 32 := 1#32
  let arg19 : BitVec 32 := Scf.iv c0_i32_34 c1_i32_36 k0_t4
  let c16_i32 : BitVec 32 := 16#32
  let v184 : BitVec 32 := Scalar.muli arg19 c16_i32
  let v185 : Index := Scalar.indexCast v184
  ![v185.toNat]
def k0_off11 (k0_t4 : Fin k0_t4_loop.trips) (c288_i32_227 : BitVec 32) : Fin 1 → Nat :=
  let c0_i32_34 : BitVec 32 := 0#32
  let c1_i32_36 : BitVec 32 := 1#32
  let arg19 : BitVec 32 := Scf.iv c0_i32_34 c1_i32_36 k0_t4
  let c16_i32 : BitVec 32 := 16#32
  let v184 : BitVec 32 := Scalar.muli arg19 c16_i32
  let v192 : BitVec 32 := Scalar.addi c288_i32_227 v184
  let v193 : Index := Scalar.indexCast v192
  ![v193.toNat]
def k0_off12 (k0_t4 : Fin k0_t4_loop.trips) : Fin 1 → Nat :=
  let c0_i32_34 : BitVec 32 := 0#32
  let c1_i32_36 : BitVec 32 := 1#32
  let arg19 : BitVec 32 := Scf.iv c0_i32_34 c1_i32_36 k0_t4
  let c16_i32 : BitVec 32 := 16#32
  let v184 : BitVec 32 := Scalar.muli arg19 c16_i32
  let v264 : Index := Scalar.indexCast v184
  ![v264.toNat]
@[reducible] def k0_t5_loop : Scf.Loop 32 :=
  let c0_i32_43 : BitVec 32 := 0#32
  let c18_i32_44 : BitVec 32 := 18#32
  let v43 : BitVec 32 := Scalar.addi c0_i32_43 c18_i32_44
  let c1_i32_45 : BitVec 32 := 1#32
  ⟨c0_i32_43, v43, c1_i32_45⟩
def k0_off13 (k0_t5 : Fin k0_t5_loop.trips) : Fin 1 → Nat :=
  let c0_i32_43 : BitVec 32 := 0#32
  let c1_i32_45 : BitVec 32 := 1#32
  let arg19 : BitVec 32 := Scf.iv c0_i32_43 c1_i32_45 k0_t5
  let c16_i32 : BitVec 32 := 16#32
  let v184 : BitVec 32 := Scalar.muli arg19 c16_i32
  let v185 : Index := Scalar.indexCast v184
  ![v185.toNat]
def k0_off14 (k0_t5 : Fin k0_t5_loop.trips) (c288_i32_227 : BitVec 32) : Fin 1 → Nat :=
  let c0_i32_43 : BitVec 32 := 0#32
  let c1_i32_45 : BitVec 32 := 1#32
  let arg19 : BitVec 32 := Scf.iv c0_i32_43 c1_i32_45 k0_t5
  let c16_i32 : BitVec 32 := 16#32
  let v184 : BitVec 32 := Scalar.muli arg19 c16_i32
  let v192 : BitVec 32 := Scalar.addi c288_i32_227 v184
  let v193 : Index := Scalar.indexCast v192
  ![v193.toNat]
def k0_off15 (k0_t5 : Fin k0_t5_loop.trips) : Fin 1 → Nat :=
  let c0_i32_43 : BitVec 32 := 0#32
  let c1_i32_45 : BitVec 32 := 1#32
  let arg19 : BitVec 32 := Scf.iv c0_i32_43 c1_i32_45 k0_t5
  let c16_i32 : BitVec 32 := 16#32
  let v184 : BitVec 32 := Scalar.muli arg19 c16_i32
  let v264 : Index := Scalar.indexCast v184
  ![v264.toNat]
@[reducible] def k0_t6_loop : Scf.Loop 32 :=
  let c0_i32_52 : BitVec 32 := 0#32
  let c18_i32_53 : BitVec 32 := 18#32
  let v50 : BitVec 32 := Scalar.addi c0_i32_52 c18_i32_53
  let c1_i32_54 : BitVec 32 := 1#32
  ⟨c0_i32_52, v50, c1_i32_54⟩
def k0_off16 (k0_t6 : Fin k0_t6_loop.trips) : Fin 1 → Nat :=
  let c0_i32_52 : BitVec 32 := 0#32
  let c1_i32_54 : BitVec 32 := 1#32
  let arg19 : BitVec 32 := Scf.iv c0_i32_52 c1_i32_54 k0_t6
  let c16_i32 : BitVec 32 := 16#32
  let v184 : BitVec 32 := Scalar.muli arg19 c16_i32
  let v185 : Index := Scalar.indexCast v184
  ![v185.toNat]
def k0_off17 (k0_t6 : Fin k0_t6_loop.trips) (c288_i32_227 : BitVec 32) : Fin 1 → Nat :=
  let c0_i32_52 : BitVec 32 := 0#32
  let c1_i32_54 : BitVec 32 := 1#32
  let arg19 : BitVec 32 := Scf.iv c0_i32_52 c1_i32_54 k0_t6
  let c16_i32 : BitVec 32 := 16#32
  let v184 : BitVec 32 := Scalar.muli arg19 c16_i32
  let v192 : BitVec 32 := Scalar.addi c288_i32_227 v184
  let v193 : Index := Scalar.indexCast v192
  ![v193.toNat]
def k0_off18 (k0_t6 : Fin k0_t6_loop.trips) : Fin 1 → Nat :=
  let c0_i32_52 : BitVec 32 := 0#32
  let c1_i32_54 : BitVec 32 := 1#32
  let arg19 : BitVec 32 := Scf.iv c0_i32_52 c1_i32_54 k0_t6
  let c16_i32 : BitVec 32 := 16#32
  let v184 : BitVec 32 := Scalar.muli arg19 c16_i32
  let v264 : Index := Scalar.indexCast v184
  ![v264.toNat]
@[reducible] def k0_t7_loop : Scf.Loop 32 :=
  let c0_i32_61 : BitVec 32 := 0#32
  let c18_i32_62 : BitVec 32 := 18#32
  let v57 : BitVec 32 := Scalar.addi c0_i32_61 c18_i32_62
  let c1_i32_63 : BitVec 32 := 1#32
  ⟨c0_i32_61, v57, c1_i32_63⟩
def k0_off19 (k0_t7 : Fin k0_t7_loop.trips) : Fin 1 → Nat :=
  let c0_i32_61 : BitVec 32 := 0#32
  let c1_i32_63 : BitVec 32 := 1#32
  let arg19 : BitVec 32 := Scf.iv c0_i32_61 c1_i32_63 k0_t7
  let c16_i32 : BitVec 32 := 16#32
  let v184 : BitVec 32 := Scalar.muli arg19 c16_i32
  let v185 : Index := Scalar.indexCast v184
  ![v185.toNat]
def k0_off20 (k0_t7 : Fin k0_t7_loop.trips) (c288_i32_227 : BitVec 32) : Fin 1 → Nat :=
  let c0_i32_61 : BitVec 32 := 0#32
  let c1_i32_63 : BitVec 32 := 1#32
  let arg19 : BitVec 32 := Scf.iv c0_i32_61 c1_i32_63 k0_t7
  let c16_i32 : BitVec 32 := 16#32
  let v184 : BitVec 32 := Scalar.muli arg19 c16_i32
  let v192 : BitVec 32 := Scalar.addi c288_i32_227 v184
  let v193 : Index := Scalar.indexCast v192
  ![v193.toNat]
def k0_off21 (k0_t7 : Fin k0_t7_loop.trips) : Fin 1 → Nat :=
  let c0_i32_61 : BitVec 32 := 0#32
  let c1_i32_63 : BitVec 32 := 1#32
  let arg19 : BitVec 32 := Scf.iv c0_i32_61 c1_i32_63 k0_t7
  let c16_i32 : BitVec 32 := 16#32
  let v184 : BitVec 32 := Scalar.muli arg19 c16_i32
  let v264 : Index := Scalar.indexCast v184
  ![v264.toNat]
@[reducible] def k0_t8_loop : Scf.Loop 32 :=
  let c0_i32_70 : BitVec 32 := 0#32
  let c18_i32_71 : BitVec 32 := 18#32
  let v64 : BitVec 32 := Scalar.addi c0_i32_70 c18_i32_71
  let c1_i32_72 : BitVec 32 := 1#32
  ⟨c0_i32_70, v64, c1_i32_72⟩
def k0_off22 (k0_t8 : Fin k0_t8_loop.trips) : Fin 1 → Nat :=
  let c0_i32_70 : BitVec 32 := 0#32
  let c1_i32_72 : BitVec 32 := 1#32
  let arg19 : BitVec 32 := Scf.iv c0_i32_70 c1_i32_72 k0_t8
  let c16_i32 : BitVec 32 := 16#32
  let v184 : BitVec 32 := Scalar.muli arg19 c16_i32
  let v185 : Index := Scalar.indexCast v184
  ![v185.toNat]
def k0_off23 (k0_t8 : Fin k0_t8_loop.trips) (c288_i32_227 : BitVec 32) : Fin 1 → Nat :=
  let c0_i32_70 : BitVec 32 := 0#32
  let c1_i32_72 : BitVec 32 := 1#32
  let arg19 : BitVec 32 := Scf.iv c0_i32_70 c1_i32_72 k0_t8
  let c16_i32 : BitVec 32 := 16#32
  let v184 : BitVec 32 := Scalar.muli arg19 c16_i32
  let v192 : BitVec 32 := Scalar.addi c288_i32_227 v184
  let v193 : Index := Scalar.indexCast v192
  ![v193.toNat]
def k0_off24 (k0_t8 : Fin k0_t8_loop.trips) : Fin 1 → Nat :=
  let c0_i32_70 : BitVec 32 := 0#32
  let c1_i32_72 : BitVec 32 := 1#32
  let arg19 : BitVec 32 := Scf.iv c0_i32_70 c1_i32_72 k0_t8
  let c16_i32 : BitVec 32 := 16#32
  let v184 : BitVec 32 := Scalar.muli arg19 c16_i32
  let v264 : Index := Scalar.indexCast v184
  ![v264.toNat]
@[reducible] def k0_t9_loop : Scf.Loop 32 :=
  let c0_i32_79 : BitVec 32 := 0#32
  let c18_i32_80 : BitVec 32 := 18#32
  let v71 : BitVec 32 := Scalar.addi c0_i32_79 c18_i32_80
  let c1_i32_81 : BitVec 32 := 1#32
  ⟨c0_i32_79, v71, c1_i32_81⟩
def k0_off25 (k0_t9 : Fin k0_t9_loop.trips) : Fin 1 → Nat :=
  let c0_i32_79 : BitVec 32 := 0#32
  let c1_i32_81 : BitVec 32 := 1#32
  let arg19 : BitVec 32 := Scf.iv c0_i32_79 c1_i32_81 k0_t9
  let c16_i32 : BitVec 32 := 16#32
  let v184 : BitVec 32 := Scalar.muli arg19 c16_i32
  let v185 : Index := Scalar.indexCast v184
  ![v185.toNat]
def k0_off26 (k0_t9 : Fin k0_t9_loop.trips) (c288_i32_227 : BitVec 32) : Fin 1 → Nat :=
  let c0_i32_79 : BitVec 32 := 0#32
  let c1_i32_81 : BitVec 32 := 1#32
  let arg19 : BitVec 32 := Scf.iv c0_i32_79 c1_i32_81 k0_t9
  let c16_i32 : BitVec 32 := 16#32
  let v184 : BitVec 32 := Scalar.muli arg19 c16_i32
  let v192 : BitVec 32 := Scalar.addi c288_i32_227 v184
  let v193 : Index := Scalar.indexCast v192
  ![v193.toNat]
def k0_off27 (k0_t9 : Fin k0_t9_loop.trips) : Fin 1 → Nat :=
  let c0_i32_79 : BitVec 32 := 0#32
  let c1_i32_81 : BitVec 32 := 1#32
  let arg19 : BitVec 32 := Scf.iv c0_i32_79 c1_i32_81 k0_t9
  let c16_i32 : BitVec 32 := 16#32
  let v184 : BitVec 32 := Scalar.muli arg19 c16_i32
  let v264 : Index := Scalar.indexCast v184
  ![v264.toNat]
@[reducible] def k0_t10_loop : Scf.Loop 32 :=
  let c0_i32_88 : BitVec 32 := 0#32
  let c18_i32_89 : BitVec 32 := 18#32
  let v78 : BitVec 32 := Scalar.addi c0_i32_88 c18_i32_89
  let c1_i32_90 : BitVec 32 := 1#32
  ⟨c0_i32_88, v78, c1_i32_90⟩
def k0_off28 (k0_t10 : Fin k0_t10_loop.trips) : Fin 1 → Nat :=
  let c0_i32_88 : BitVec 32 := 0#32
  let c1_i32_90 : BitVec 32 := 1#32
  let arg19 : BitVec 32 := Scf.iv c0_i32_88 c1_i32_90 k0_t10
  let c16_i32 : BitVec 32 := 16#32
  let v184 : BitVec 32 := Scalar.muli arg19 c16_i32
  let v185 : Index := Scalar.indexCast v184
  ![v185.toNat]
def k0_off29 (k0_t10 : Fin k0_t10_loop.trips) (c288_i32_227 : BitVec 32) : Fin 1 → Nat :=
  let c0_i32_88 : BitVec 32 := 0#32
  let c1_i32_90 : BitVec 32 := 1#32
  let arg19 : BitVec 32 := Scf.iv c0_i32_88 c1_i32_90 k0_t10
  let c16_i32 : BitVec 32 := 16#32
  let v184 : BitVec 32 := Scalar.muli arg19 c16_i32
  let v192 : BitVec 32 := Scalar.addi c288_i32_227 v184
  let v193 : Index := Scalar.indexCast v192
  ![v193.toNat]
def k0_off30 (k0_t10 : Fin k0_t10_loop.trips) : Fin 1 → Nat :=
  let c0_i32_88 : BitVec 32 := 0#32
  let c1_i32_90 : BitVec 32 := 1#32
  let arg19 : BitVec 32 := Scf.iv c0_i32_88 c1_i32_90 k0_t10
  let c16_i32 : BitVec 32 := 16#32
  let v184 : BitVec 32 := Scalar.muli arg19 c16_i32
  let v264 : Index := Scalar.indexCast v184
  ![v264.toNat]
@[reducible] def k0_t11_loop : Scf.Loop 32 :=
  let c0_i32_97 : BitVec 32 := 0#32
  let c18_i32_98 : BitVec 32 := 18#32
  let v85 : BitVec 32 := Scalar.addi c0_i32_97 c18_i32_98
  let c1_i32_99 : BitVec 32 := 1#32
  ⟨c0_i32_97, v85, c1_i32_99⟩
def k0_off31 (k0_t11 : Fin k0_t11_loop.trips) : Fin 1 → Nat :=
  let c0_i32_97 : BitVec 32 := 0#32
  let c1_i32_99 : BitVec 32 := 1#32
  let arg19 : BitVec 32 := Scf.iv c0_i32_97 c1_i32_99 k0_t11
  let c16_i32 : BitVec 32 := 16#32
  let v184 : BitVec 32 := Scalar.muli arg19 c16_i32
  let v185 : Index := Scalar.indexCast v184
  ![v185.toNat]
def k0_off32 (k0_t11 : Fin k0_t11_loop.trips) (c288_i32_227 : BitVec 32) : Fin 1 → Nat :=
  let c0_i32_97 : BitVec 32 := 0#32
  let c1_i32_99 : BitVec 32 := 1#32
  let arg19 : BitVec 32 := Scf.iv c0_i32_97 c1_i32_99 k0_t11
  let c16_i32 : BitVec 32 := 16#32
  let v184 : BitVec 32 := Scalar.muli arg19 c16_i32
  let v192 : BitVec 32 := Scalar.addi c288_i32_227 v184
  let v193 : Index := Scalar.indexCast v192
  ![v193.toNat]
def k0_off33 (k0_t11 : Fin k0_t11_loop.trips) : Fin 1 → Nat :=
  let c0_i32_97 : BitVec 32 := 0#32
  let c1_i32_99 : BitVec 32 := 1#32
  let arg19 : BitVec 32 := Scf.iv c0_i32_97 c1_i32_99 k0_t11
  let c16_i32 : BitVec 32 := 16#32
  let v184 : BitVec 32 := Scalar.muli arg19 c16_i32
  let v264 : Index := Scalar.indexCast v184
  ![v264.toNat]
@[reducible] def k0_t12_loop : Scf.Loop 32 :=
  let c0_i32_106 : BitVec 32 := 0#32
  let c18_i32_107 : BitVec 32 := 18#32
  let v92 : BitVec 32 := Scalar.addi c0_i32_106 c18_i32_107
  let c1_i32_108 : BitVec 32 := 1#32
  ⟨c0_i32_106, v92, c1_i32_108⟩
def k0_off34 (k0_t12 : Fin k0_t12_loop.trips) : Fin 1 → Nat :=
  let c0_i32_106 : BitVec 32 := 0#32
  let c1_i32_108 : BitVec 32 := 1#32
  let arg19 : BitVec 32 := Scf.iv c0_i32_106 c1_i32_108 k0_t12
  let c16_i32 : BitVec 32 := 16#32
  let v184 : BitVec 32 := Scalar.muli arg19 c16_i32
  let v185 : Index := Scalar.indexCast v184
  ![v185.toNat]
def k0_off35 (k0_t12 : Fin k0_t12_loop.trips) (c288_i32_227 : BitVec 32) : Fin 1 → Nat :=
  let c0_i32_106 : BitVec 32 := 0#32
  let c1_i32_108 : BitVec 32 := 1#32
  let arg19 : BitVec 32 := Scf.iv c0_i32_106 c1_i32_108 k0_t12
  let c16_i32 : BitVec 32 := 16#32
  let v184 : BitVec 32 := Scalar.muli arg19 c16_i32
  let v192 : BitVec 32 := Scalar.addi c288_i32_227 v184
  let v193 : Index := Scalar.indexCast v192
  ![v193.toNat]
def k0_off36 (k0_t12 : Fin k0_t12_loop.trips) : Fin 1 → Nat :=
  let c0_i32_106 : BitVec 32 := 0#32
  let c1_i32_108 : BitVec 32 := 1#32
  let arg19 : BitVec 32 := Scf.iv c0_i32_106 c1_i32_108 k0_t12
  let c16_i32 : BitVec 32 := 16#32
  let v184 : BitVec 32 := Scalar.muli arg19 c16_i32
  let v264 : Index := Scalar.indexCast v184
  ![v264.toNat]
@[reducible] def k0_t13_loop : Scf.Loop 32 :=
  let c0_i32_115 : BitVec 32 := 0#32
  let c18_i32_116 : BitVec 32 := 18#32
  let v99 : BitVec 32 := Scalar.addi c0_i32_115 c18_i32_116
  let c1_i32_117 : BitVec 32 := 1#32
  ⟨c0_i32_115, v99, c1_i32_117⟩
def k0_off37 (k0_t13 : Fin k0_t13_loop.trips) : Fin 1 → Nat :=
  let c0_i32_115 : BitVec 32 := 0#32
  let c1_i32_117 : BitVec 32 := 1#32
  let arg19 : BitVec 32 := Scf.iv c0_i32_115 c1_i32_117 k0_t13
  let c16_i32 : BitVec 32 := 16#32
  let v184 : BitVec 32 := Scalar.muli arg19 c16_i32
  let v185 : Index := Scalar.indexCast v184
  ![v185.toNat]
def k0_off38 (k0_t13 : Fin k0_t13_loop.trips) (c288_i32_227 : BitVec 32) : Fin 1 → Nat :=
  let c0_i32_115 : BitVec 32 := 0#32
  let c1_i32_117 : BitVec 32 := 1#32
  let arg19 : BitVec 32 := Scf.iv c0_i32_115 c1_i32_117 k0_t13
  let c16_i32 : BitVec 32 := 16#32
  let v184 : BitVec 32 := Scalar.muli arg19 c16_i32
  let v192 : BitVec 32 := Scalar.addi c288_i32_227 v184
  let v193 : Index := Scalar.indexCast v192
  ![v193.toNat]
def k0_off39 (k0_t13 : Fin k0_t13_loop.trips) : Fin 1 → Nat :=
  let c0_i32_115 : BitVec 32 := 0#32
  let c1_i32_117 : BitVec 32 := 1#32
  let arg19 : BitVec 32 := Scf.iv c0_i32_115 c1_i32_117 k0_t13
  let c16_i32 : BitVec 32 := 16#32
  let v184 : BitVec 32 := Scalar.muli arg19 c16_i32
  let v264 : Index := Scalar.indexCast v184
  ![v264.toNat]
@[reducible] def k0_t14_loop : Scf.Loop 32 :=
  let c0_i32_124 : BitVec 32 := 0#32
  let c18_i32_125 : BitVec 32 := 18#32
  let v106 : BitVec 32 := Scalar.addi c0_i32_124 c18_i32_125
  let c1_i32_126 : BitVec 32 := 1#32
  ⟨c0_i32_124, v106, c1_i32_126⟩
def k0_off40 (k0_t14 : Fin k0_t14_loop.trips) : Fin 1 → Nat :=
  let c0_i32_124 : BitVec 32 := 0#32
  let c1_i32_126 : BitVec 32 := 1#32
  let arg19 : BitVec 32 := Scf.iv c0_i32_124 c1_i32_126 k0_t14
  let c16_i32 : BitVec 32 := 16#32
  let v184 : BitVec 32 := Scalar.muli arg19 c16_i32
  let v185 : Index := Scalar.indexCast v184
  ![v185.toNat]
def k0_off41 (k0_t14 : Fin k0_t14_loop.trips) (c288_i32_227 : BitVec 32) : Fin 1 → Nat :=
  let c0_i32_124 : BitVec 32 := 0#32
  let c1_i32_126 : BitVec 32 := 1#32
  let arg19 : BitVec 32 := Scf.iv c0_i32_124 c1_i32_126 k0_t14
  let c16_i32 : BitVec 32 := 16#32
  let v184 : BitVec 32 := Scalar.muli arg19 c16_i32
  let v192 : BitVec 32 := Scalar.addi c288_i32_227 v184
  let v193 : Index := Scalar.indexCast v192
  ![v193.toNat]
def k0_off42 (k0_t14 : Fin k0_t14_loop.trips) : Fin 1 → Nat :=
  let c0_i32_124 : BitVec 32 := 0#32
  let c1_i32_126 : BitVec 32 := 1#32
  let arg19 : BitVec 32 := Scf.iv c0_i32_124 c1_i32_126 k0_t14
  let c16_i32 : BitVec 32 := 16#32
  let v184 : BitVec 32 := Scalar.muli arg19 c16_i32
  let v264 : Index := Scalar.indexCast v184
  ![v264.toNat]
@[reducible] def k0_t15_loop : Scf.Loop 32 :=
  let c0_i32_133 : BitVec 32 := 0#32
  let c18_i32_134 : BitVec 32 := 18#32
  let v113 : BitVec 32 := Scalar.addi c0_i32_133 c18_i32_134
  let c1_i32_135 : BitVec 32 := 1#32
  ⟨c0_i32_133, v113, c1_i32_135⟩
def k0_off43 (k0_t15 : Fin k0_t15_loop.trips) : Fin 1 → Nat :=
  let c0_i32_133 : BitVec 32 := 0#32
  let c1_i32_135 : BitVec 32 := 1#32
  let arg19 : BitVec 32 := Scf.iv c0_i32_133 c1_i32_135 k0_t15
  let c16_i32 : BitVec 32 := 16#32
  let v184 : BitVec 32 := Scalar.muli arg19 c16_i32
  let v185 : Index := Scalar.indexCast v184
  ![v185.toNat]
def k0_off44 (k0_t15 : Fin k0_t15_loop.trips) (c288_i32_227 : BitVec 32) : Fin 1 → Nat :=
  let c0_i32_133 : BitVec 32 := 0#32
  let c1_i32_135 : BitVec 32 := 1#32
  let arg19 : BitVec 32 := Scf.iv c0_i32_133 c1_i32_135 k0_t15
  let c16_i32 : BitVec 32 := 16#32
  let v184 : BitVec 32 := Scalar.muli arg19 c16_i32
  let v192 : BitVec 32 := Scalar.addi c288_i32_227 v184
  let v193 : Index := Scalar.indexCast v192
  ![v193.toNat]
def k0_off45 (k0_t15 : Fin k0_t15_loop.trips) : Fin 1 → Nat :=
  let c0_i32_133 : BitVec 32 := 0#32
  let c1_i32_135 : BitVec 32 := 1#32
  let arg19 : BitVec 32 := Scf.iv c0_i32_133 c1_i32_135 k0_t15
  let c16_i32 : BitVec 32 := 16#32
  let v184 : BitVec 32 := Scalar.muli arg19 c16_i32
  let v264 : Index := Scalar.indexCast v184
  ![v264.toNat]
@[reducible] def k0_t16_loop : Scf.Loop 32 :=
  let c0_i32_142 : BitVec 32 := 0#32
  let c18_i32_143 : BitVec 32 := 18#32
  let v120 : BitVec 32 := Scalar.addi c0_i32_142 c18_i32_143
  let c1_i32_144 : BitVec 32 := 1#32
  ⟨c0_i32_142, v120, c1_i32_144⟩
def k0_off46 (k0_t16 : Fin k0_t16_loop.trips) : Fin 1 → Nat :=
  let c0_i32_142 : BitVec 32 := 0#32
  let c1_i32_144 : BitVec 32 := 1#32
  let arg19 : BitVec 32 := Scf.iv c0_i32_142 c1_i32_144 k0_t16
  let c16_i32 : BitVec 32 := 16#32
  let v184 : BitVec 32 := Scalar.muli arg19 c16_i32
  let v185 : Index := Scalar.indexCast v184
  ![v185.toNat]
def k0_off47 (k0_t16 : Fin k0_t16_loop.trips) (c288_i32_227 : BitVec 32) : Fin 1 → Nat :=
  let c0_i32_142 : BitVec 32 := 0#32
  let c1_i32_144 : BitVec 32 := 1#32
  let arg19 : BitVec 32 := Scf.iv c0_i32_142 c1_i32_144 k0_t16
  let c16_i32 : BitVec 32 := 16#32
  let v184 : BitVec 32 := Scalar.muli arg19 c16_i32
  let v192 : BitVec 32 := Scalar.addi c288_i32_227 v184
  let v193 : Index := Scalar.indexCast v192
  ![v193.toNat]
def k0_off48 (k0_t16 : Fin k0_t16_loop.trips) : Fin 1 → Nat :=
  let c0_i32_142 : BitVec 32 := 0#32
  let c1_i32_144 : BitVec 32 := 1#32
  let arg19 : BitVec 32 := Scf.iv c0_i32_142 c1_i32_144 k0_t16
  let c16_i32 : BitVec 32 := 16#32
  let v184 : BitVec 32 := Scalar.muli arg19 c16_i32
  let v264 : Index := Scalar.indexCast v184
  ![v264.toNat]
@[reducible] def k0_t17_loop : Scf.Loop 32 :=
  let c0_i32_151 : BitVec 32 := 0#32
  let c18_i32_152 : BitVec 32 := 18#32
  let v127 : BitVec 32 := Scalar.addi c0_i32_151 c18_i32_152
  let c1_i32_153 : BitVec 32 := 1#32
  ⟨c0_i32_151, v127, c1_i32_153⟩
def k0_off49 (k0_t17 : Fin k0_t17_loop.trips) : Fin 1 → Nat :=
  let c0_i32_151 : BitVec 32 := 0#32
  let c1_i32_153 : BitVec 32 := 1#32
  let arg19 : BitVec 32 := Scf.iv c0_i32_151 c1_i32_153 k0_t17
  let c16_i32 : BitVec 32 := 16#32
  let v184 : BitVec 32 := Scalar.muli arg19 c16_i32
  let v185 : Index := Scalar.indexCast v184
  ![v185.toNat]
def k0_off50 (k0_t17 : Fin k0_t17_loop.trips) (c288_i32_227 : BitVec 32) : Fin 1 → Nat :=
  let c0_i32_151 : BitVec 32 := 0#32
  let c1_i32_153 : BitVec 32 := 1#32
  let arg19 : BitVec 32 := Scf.iv c0_i32_151 c1_i32_153 k0_t17
  let c16_i32 : BitVec 32 := 16#32
  let v184 : BitVec 32 := Scalar.muli arg19 c16_i32
  let v192 : BitVec 32 := Scalar.addi c288_i32_227 v184
  let v193 : Index := Scalar.indexCast v192
  ![v193.toNat]
def k0_off51 (k0_t17 : Fin k0_t17_loop.trips) : Fin 1 → Nat :=
  let c0_i32_151 : BitVec 32 := 0#32
  let c1_i32_153 : BitVec 32 := 1#32
  let arg19 : BitVec 32 := Scf.iv c0_i32_151 c1_i32_153 k0_t17
  let c16_i32 : BitVec 32 := 16#32
  let v184 : BitVec 32 := Scalar.muli arg19 c16_i32
  let v264 : Index := Scalar.indexCast v184
  ![v264.toNat]
@[reducible] def k0_t18_loop : Scf.Loop 32 :=
  let c0_i32_160 : BitVec 32 := 0#32
  let c18_i32_161 : BitVec 32 := 18#32
  let v134 : BitVec 32 := Scalar.addi c0_i32_160 c18_i32_161
  let c1_i32_162 : BitVec 32 := 1#32
  ⟨c0_i32_160, v134, c1_i32_162⟩
def k0_off52 (k0_t18 : Fin k0_t18_loop.trips) : Fin 1 → Nat :=
  let c0_i32_160 : BitVec 32 := 0#32
  let c1_i32_162 : BitVec 32 := 1#32
  let arg19 : BitVec 32 := Scf.iv c0_i32_160 c1_i32_162 k0_t18
  let c16_i32 : BitVec 32 := 16#32
  let v184 : BitVec 32 := Scalar.muli arg19 c16_i32
  let v185 : Index := Scalar.indexCast v184
  ![v185.toNat]
def k0_off53 (k0_t18 : Fin k0_t18_loop.trips) (c288_i32_227 : BitVec 32) : Fin 1 → Nat :=
  let c0_i32_160 : BitVec 32 := 0#32
  let c1_i32_162 : BitVec 32 := 1#32
  let arg19 : BitVec 32 := Scf.iv c0_i32_160 c1_i32_162 k0_t18
  let c16_i32 : BitVec 32 := 16#32
  let v184 : BitVec 32 := Scalar.muli arg19 c16_i32
  let v192 : BitVec 32 := Scalar.addi c288_i32_227 v184
  let v193 : Index := Scalar.indexCast v192
  ![v193.toNat]
def k0_off54 (k0_t18 : Fin k0_t18_loop.trips) : Fin 1 → Nat :=
  let c0_i32_160 : BitVec 32 := 0#32
  let c1_i32_162 : BitVec 32 := 1#32
  let arg19 : BitVec 32 := Scf.iv c0_i32_160 c1_i32_162 k0_t18
  let c16_i32 : BitVec 32 := 16#32
  let v184 : BitVec 32 := Scalar.muli arg19 c16_i32
  let v264 : Index := Scalar.indexCast v184
  ![v264.toNat]
@[reducible] def k0_t19_loop : Scf.Loop 32 :=
  let c0_i32_169 : BitVec 32 := 0#32
  let c18_i32_170 : BitVec 32 := 18#32
  let v141 : BitVec 32 := Scalar.addi c0_i32_169 c18_i32_170
  let c1_i32_171 : BitVec 32 := 1#32
  ⟨c0_i32_169, v141, c1_i32_171⟩
def k0_off55 (k0_t19 : Fin k0_t19_loop.trips) : Fin 1 → Nat :=
  let c0_i32_169 : BitVec 32 := 0#32
  let c1_i32_171 : BitVec 32 := 1#32
  let arg19 : BitVec 32 := Scf.iv c0_i32_169 c1_i32_171 k0_t19
  let c16_i32 : BitVec 32 := 16#32
  let v184 : BitVec 32 := Scalar.muli arg19 c16_i32
  let v185 : Index := Scalar.indexCast v184
  ![v185.toNat]
def k0_off56 (k0_t19 : Fin k0_t19_loop.trips) (c288_i32_227 : BitVec 32) : Fin 1 → Nat :=
  let c0_i32_169 : BitVec 32 := 0#32
  let c1_i32_171 : BitVec 32 := 1#32
  let arg19 : BitVec 32 := Scf.iv c0_i32_169 c1_i32_171 k0_t19
  let c16_i32 : BitVec 32 := 16#32
  let v184 : BitVec 32 := Scalar.muli arg19 c16_i32
  let v192 : BitVec 32 := Scalar.addi c288_i32_227 v184
  let v193 : Index := Scalar.indexCast v192
  ![v193.toNat]
def k0_off57 (k0_t19 : Fin k0_t19_loop.trips) : Fin 1 → Nat :=
  let c0_i32_169 : BitVec 32 := 0#32
  let c1_i32_171 : BitVec 32 := 1#32
  let arg19 : BitVec 32 := Scf.iv c0_i32_169 c1_i32_171 k0_t19
  let c16_i32 : BitVec 32 := 16#32
  let v184 : BitVec 32 := Scalar.muli arg19 c16_i32
  let v264 : Index := Scalar.indexCast v184
  ![v264.toNat]
@[reducible] def k0_t20_loop : Scf.Loop 32 :=
  let c0_i32_178 : BitVec 32 := 0#32
  let c18_i32_179 : BitVec 32 := 18#32
  let v148 : BitVec 32 := Scalar.addi c0_i32_178 c18_i32_179
  let c1_i32_180 : BitVec 32 := 1#32
  ⟨c0_i32_178, v148, c1_i32_180⟩
def k0_off58 (k0_t20 : Fin k0_t20_loop.trips) : Fin 1 → Nat :=
  let c0_i32_178 : BitVec 32 := 0#32
  let c1_i32_180 : BitVec 32 := 1#32
  let arg19 : BitVec 32 := Scf.iv c0_i32_178 c1_i32_180 k0_t20
  let c16_i32 : BitVec 32 := 16#32
  let v184 : BitVec 32 := Scalar.muli arg19 c16_i32
  let v185 : Index := Scalar.indexCast v184
  ![v185.toNat]
def k0_off59 (k0_t20 : Fin k0_t20_loop.trips) (c288_i32_227 : BitVec 32) : Fin 1 → Nat :=
  let c0_i32_178 : BitVec 32 := 0#32
  let c1_i32_180 : BitVec 32 := 1#32
  let arg19 : BitVec 32 := Scf.iv c0_i32_178 c1_i32_180 k0_t20
  let c16_i32 : BitVec 32 := 16#32
  let v184 : BitVec 32 := Scalar.muli arg19 c16_i32
  let v192 : BitVec 32 := Scalar.addi c288_i32_227 v184
  let v193 : Index := Scalar.indexCast v192
  ![v193.toNat]
def k0_off60 (k0_t20 : Fin k0_t20_loop.trips) : Fin 1 → Nat :=
  let c0_i32_178 : BitVec 32 := 0#32
  let c1_i32_180 : BitVec 32 := 1#32
  let arg19 : BitVec 32 := Scf.iv c0_i32_178 c1_i32_180 k0_t20
  let c16_i32 : BitVec 32 := 16#32
  let v184 : BitVec 32 := Scalar.muli arg19 c16_i32
  let v264 : Index := Scalar.indexCast v184
  ![v264.toNat]
@[reducible] def k0_t21_loop : Scf.Loop 32 :=
  let c0_i32_187 : BitVec 32 := 0#32
  let c18_i32_188 : BitVec 32 := 18#32
  let v155 : BitVec 32 := Scalar.addi c0_i32_187 c18_i32_188
  let c1_i32_189 : BitVec 32 := 1#32
  ⟨c0_i32_187, v155, c1_i32_189⟩
def k0_off61 (k0_t21 : Fin k0_t21_loop.trips) : Fin 1 → Nat :=
  let c0_i32_187 : BitVec 32 := 0#32
  let c1_i32_189 : BitVec 32 := 1#32
  let arg19 : BitVec 32 := Scf.iv c0_i32_187 c1_i32_189 k0_t21
  let c16_i32 : BitVec 32 := 16#32
  let v184 : BitVec 32 := Scalar.muli arg19 c16_i32
  let v185 : Index := Scalar.indexCast v184
  ![v185.toNat]
def k0_off62 (k0_t21 : Fin k0_t21_loop.trips) (c288_i32_227 : BitVec 32) : Fin 1 → Nat :=
  let c0_i32_187 : BitVec 32 := 0#32
  let c1_i32_189 : BitVec 32 := 1#32
  let arg19 : BitVec 32 := Scf.iv c0_i32_187 c1_i32_189 k0_t21
  let c16_i32 : BitVec 32 := 16#32
  let v184 : BitVec 32 := Scalar.muli arg19 c16_i32
  let v192 : BitVec 32 := Scalar.addi c288_i32_227 v184
  let v193 : Index := Scalar.indexCast v192
  ![v193.toNat]
def k0_off63 (k0_t21 : Fin k0_t21_loop.trips) : Fin 1 → Nat :=
  let c0_i32_187 : BitVec 32 := 0#32
  let c1_i32_189 : BitVec 32 := 1#32
  let arg19 : BitVec 32 := Scf.iv c0_i32_187 c1_i32_189 k0_t21
  let c16_i32 : BitVec 32 := 16#32
  let v184 : BitVec 32 := Scalar.muli arg19 c16_i32
  let v264 : Index := Scalar.indexCast v184
  ![v264.toNat]
@[reducible] def k0_t22_loop : Scf.Loop 32 :=
  let c0_i32_196 : BitVec 32 := 0#32
  let c18_i32_197 : BitVec 32 := 18#32
  let v162 : BitVec 32 := Scalar.addi c0_i32_196 c18_i32_197
  let c1_i32_198 : BitVec 32 := 1#32
  ⟨c0_i32_196, v162, c1_i32_198⟩
def k0_off64 (k0_t22 : Fin k0_t22_loop.trips) : Fin 1 → Nat :=
  let c0_i32_196 : BitVec 32 := 0#32
  let c1_i32_198 : BitVec 32 := 1#32
  let arg19 : BitVec 32 := Scf.iv c0_i32_196 c1_i32_198 k0_t22
  let c16_i32 : BitVec 32 := 16#32
  let v184 : BitVec 32 := Scalar.muli arg19 c16_i32
  let v185 : Index := Scalar.indexCast v184
  ![v185.toNat]
def k0_off65 (k0_t22 : Fin k0_t22_loop.trips) (c288_i32_227 : BitVec 32) : Fin 1 → Nat :=
  let c0_i32_196 : BitVec 32 := 0#32
  let c1_i32_198 : BitVec 32 := 1#32
  let arg19 : BitVec 32 := Scf.iv c0_i32_196 c1_i32_198 k0_t22
  let c16_i32 : BitVec 32 := 16#32
  let v184 : BitVec 32 := Scalar.muli arg19 c16_i32
  let v192 : BitVec 32 := Scalar.addi c288_i32_227 v184
  let v193 : Index := Scalar.indexCast v192
  ![v193.toNat]
def k0_off66 (k0_t22 : Fin k0_t22_loop.trips) : Fin 1 → Nat :=
  let c0_i32_196 : BitVec 32 := 0#32
  let c1_i32_198 : BitVec 32 := 1#32
  let arg19 : BitVec 32 := Scf.iv c0_i32_196 c1_i32_198 k0_t22
  let c16_i32 : BitVec 32 := 16#32
  let v184 : BitVec 32 := Scalar.muli arg19 c16_i32
  let v264 : Index := Scalar.indexCast v184
  ![v264.toNat]
@[reducible] def k0_t23_loop : Scf.Loop 32 :=
  let c0_i32_205 : BitVec 32 := 0#32
  let c18_i32_206 : BitVec 32 := 18#32
  let v169 : BitVec 32 := Scalar.addi c0_i32_205 c18_i32_206
  let c1_i32_207 : BitVec 32 := 1#32
  ⟨c0_i32_205, v169, c1_i32_207⟩
def k0_off67 (k0_t23 : Fin k0_t23_loop.trips) : Fin 1 → Nat :=
  let c0_i32_205 : BitVec 32 := 0#32
  let c1_i32_207 : BitVec 32 := 1#32
  let arg19 : BitVec 32 := Scf.iv c0_i32_205 c1_i32_207 k0_t23
  let c16_i32 : BitVec 32 := 16#32
  let v184 : BitVec 32 := Scalar.muli arg19 c16_i32
  let v185 : Index := Scalar.indexCast v184
  ![v185.toNat]
def k0_off68 (k0_t23 : Fin k0_t23_loop.trips) (c288_i32_227 : BitVec 32) : Fin 1 → Nat :=
  let c0_i32_205 : BitVec 32 := 0#32
  let c1_i32_207 : BitVec 32 := 1#32
  let arg19 : BitVec 32 := Scf.iv c0_i32_205 c1_i32_207 k0_t23
  let c16_i32 : BitVec 32 := 16#32
  let v184 : BitVec 32 := Scalar.muli arg19 c16_i32
  let v192 : BitVec 32 := Scalar.addi c288_i32_227 v184
  let v193 : Index := Scalar.indexCast v192
  ![v193.toNat]
def k0_off69 (k0_t23 : Fin k0_t23_loop.trips) : Fin 1 → Nat :=
  let c0_i32_205 : BitVec 32 := 0#32
  let c1_i32_207 : BitVec 32 := 1#32
  let arg19 : BitVec 32 := Scf.iv c0_i32_205 c1_i32_207 k0_t23
  let c16_i32 : BitVec 32 := 16#32
  let v184 : BitVec 32 := Scalar.muli arg19 c16_i32
  let v264 : Index := Scalar.indexCast v184
  ![v264.toNat]
@[reducible] def k0_t24_loop : Scf.Loop 32 :=
  let c0_i32_214 : BitVec 32 := 0#32
  let c18_i32_215 : BitVec 32 := 18#32
  let v176 : BitVec 32 := Scalar.addi c0_i32_214 c18_i32_215
  let c1_i32_216 : BitVec 32 := 1#32
  ⟨c0_i32_214, v176, c1_i32_216⟩
def k0_off70 (k0_t24 : Fin k0_t24_loop.trips) : Fin 1 → Nat :=
  let c0_i32_214 : BitVec 32 := 0#32
  let c1_i32_216 : BitVec 32 := 1#32
  let arg19 : BitVec 32 := Scf.iv c0_i32_214 c1_i32_216 k0_t24
  let c16_i32 : BitVec 32 := 16#32
  let v184 : BitVec 32 := Scalar.muli arg19 c16_i32
  let v185 : Index := Scalar.indexCast v184
  ![v185.toNat]
def k0_off71 (k0_t24 : Fin k0_t24_loop.trips) (c288_i32_227 : BitVec 32) : Fin 1 → Nat :=
  let c0_i32_214 : BitVec 32 := 0#32
  let c1_i32_216 : BitVec 32 := 1#32
  let arg19 : BitVec 32 := Scf.iv c0_i32_214 c1_i32_216 k0_t24
  let c16_i32 : BitVec 32 := 16#32
  let v184 : BitVec 32 := Scalar.muli arg19 c16_i32
  let v192 : BitVec 32 := Scalar.addi c288_i32_227 v184
  let v193 : Index := Scalar.indexCast v192
  ![v193.toNat]
def k0_off72 (k0_t24 : Fin k0_t24_loop.trips) : Fin 1 → Nat :=
  let c0_i32_214 : BitVec 32 := 0#32
  let c1_i32_216 : BitVec 32 := 1#32
  let arg19 : BitVec 32 := Scf.iv c0_i32_214 c1_i32_216 k0_t24
  let c16_i32 : BitVec 32 := 16#32
  let v184 : BitVec 32 := Scalar.muli arg19 c16_i32
  let v264 : Index := Scalar.indexCast v184
  ![v264.toNat]
@[reducible] def k0_t25_loop : Scf.Loop 32 :=
  let c0_i32_222 : BitVec 32 := 0#32
  let c18_i32_223 : BitVec 32 := 18#32
  let v181 : BitVec 32 := Scalar.addi c0_i32_222 c18_i32_223
  let c1_i32_224 : BitVec 32 := 1#32
  ⟨c0_i32_222, v181, c1_i32_224⟩
def k0_off73 (k0_t25 : Fin k0_t25_loop.trips) : Fin 1 → Nat :=
  let c0_i32_222 : BitVec 32 := 0#32
  let c1_i32_224 : BitVec 32 := 1#32
  let arg19 : BitVec 32 := Scf.iv c0_i32_222 c1_i32_224 k0_t25
  let c16_i32 : BitVec 32 := 16#32
  let v184 : BitVec 32 := Scalar.muli arg19 c16_i32
  let v185 : Index := Scalar.indexCast v184
  ![v185.toNat]
def k0_off74 (k0_t25 : Fin k0_t25_loop.trips) (c288_i32_227 : BitVec 32) : Fin 1 → Nat :=
  let c0_i32_222 : BitVec 32 := 0#32
  let c1_i32_224 : BitVec 32 := 1#32
  let arg19 : BitVec 32 := Scf.iv c0_i32_222 c1_i32_224 k0_t25
  let c16_i32 : BitVec 32 := 16#32
  let v184 : BitVec 32 := Scalar.muli arg19 c16_i32
  let v192 : BitVec 32 := Scalar.addi c288_i32_227 v184
  let v193 : Index := Scalar.indexCast v192
  ![v193.toNat]
def k0_off75 (k0_t25 : Fin k0_t25_loop.trips) : Fin 1 → Nat :=
  let c0_i32_222 : BitVec 32 := 0#32
  let c1_i32_224 : BitVec 32 := 1#32
  let arg19 : BitVec 32 := Scf.iv c0_i32_222 c1_i32_224 k0_t25
  let c16_i32 : BitVec 32 := 16#32
  let v184 : BitVec 32 := Scalar.muli arg19 c16_i32
  let v264 : Index := Scalar.indexCast v184
  ![v264.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "ninth" => some ((9⁻¹ : ℝ) : EReal)
  | _ => none
-- ==== ReferenceIdeal.lean ====
abbrev S8x3x512x512 : Shape := ⟨4, ![8, 3, 512, 512]⟩
abbrev S2 : Shape := ⟨1, ![2]⟩
abbrev S_ : Shape := ⟨0, ![]⟩
abbrev S82944x2 : Shape := ⟨2, ![82944, 2]⟩
abbrev S9216x9 : Shape := ⟨2, ![9216, 9]⟩
abbrev S82944x1 : Shape := ⟨2, ![82944, 1]⟩
abbrev S82944 : Shape := ⟨1, ![82944]⟩
abbrev S1 : Shape := ⟨1, ![1]⟩
abbrev S8x3x262144 : Shape := ⟨3, ![8, 3, 262144]⟩
abbrev S1x1 : Shape := ⟨2, ![1, 1]⟩
abbrev S8x3x82944 : Shape := ⟨3, ![8, 3, 82944]⟩
abbrev S1x1x82944 : Shape := ⟨3, ![1, 1, 82944]⟩
abbrev S8x3x9216x9 : Shape := ⟨4, ![8, 3, 9216, 9]⟩
abbrev S8x3x9216 : Shape := ⟨3, ![8, 3, 9216]⟩

abbrev nBuf : Space → Nat
  | .hbm => 127
  | .vmem => 0
  | .smem => 0
  | _ => 0

abbrev bufTy : (tb : Table) → Fin (tcTables nBuf tb) → BufTy
  | .hbm, ⟨0, _⟩ => ⟨S8x3x512x512, .f32⟩
  | .hbm, ⟨1, _⟩ => ⟨S2, .f32⟩
  | .hbm, ⟨2, _⟩ => ⟨S_, .i32⟩
  | .hbm, ⟨3, _⟩ => ⟨S82944x2, .f32⟩
  | .hbm, ⟨4, _⟩ => ⟨S9216x9, .i32⟩
  | .hbm, ⟨5, _⟩ => ⟨S82944x1, .f32⟩
  | .hbm, ⟨6, _⟩ => ⟨S82944, .f32⟩
  | .hbm, ⟨7, _⟩ => ⟨S82944x1, .f32⟩
  | .hbm, ⟨8, _⟩ => ⟨S82944, .f32⟩
  | .hbm, ⟨9, _⟩ => ⟨S82944, .f32⟩
  | .hbm, ⟨10, _⟩ => ⟨S1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S82944, .f32⟩
  | .hbm, ⟨17, _⟩ => ⟨S82944, .f32⟩
  | .hbm, ⟨18, _⟩ => ⟨S82944, .f32⟩
  | .hbm, ⟨19, _⟩ => ⟨S82944, .f32⟩
  | .hbm, ⟨20, _⟩ => ⟨S1, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S82944, .f32⟩
  | .hbm, ⟨27, _⟩ => ⟨S82944, .f32⟩
  | .hbm, ⟨28, _⟩ => ⟨S82944, .f32⟩
  | .hbm, ⟨29, _⟩ => ⟨S82944, .f32⟩
  | .hbm, ⟨30, _⟩ => ⟨S82944, .f32⟩
  | .hbm, ⟨31, _⟩ => ⟨S82944, .i32⟩
  | .hbm, ⟨32, _⟩ => ⟨S82944, .f32⟩
  | .hbm, ⟨33, _⟩ => ⟨S82944, .i32⟩
  | .hbm, ⟨34, _⟩ => ⟨S_, .i32⟩
  | .hbm, ⟨35, _⟩ => ⟨S82944, .i32⟩
  | .hbm, ⟨36, _⟩ => ⟨S82944, .i1⟩
  | .hbm, ⟨37, _⟩ => ⟨S_, .i32⟩
  | .hbm, ⟨38, _⟩ => ⟨S82944, .i32⟩
  | .hbm, ⟨39, _⟩ => ⟨S82944, .i1⟩
  | .hbm, ⟨40, _⟩ => ⟨S82944, .i1⟩
  | .hbm, ⟨41, _⟩ => ⟨S_, .i32⟩
  | .hbm, ⟨42, _⟩ => ⟨S82944, .i32⟩
  | .hbm, ⟨43, _⟩ => ⟨S82944, .i1⟩
  | .hbm, ⟨44, _⟩ => ⟨S82944, .i1⟩
  | .hbm, ⟨45, _⟩ => ⟨S_, .i32⟩
  | .hbm, ⟨46, _⟩ => ⟨S82944, .i32⟩
  | .hbm, ⟨47, _⟩ => ⟨S82944, .i1⟩
  | .hbm, ⟨48, _⟩ => ⟨S82944, .i1⟩
  | .hbm, ⟨49, _⟩ => ⟨S82944, .f32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S82944, .i32⟩
  | .hbm, ⟨54, _⟩ => ⟨S82944, .i32⟩
  | .hbm, ⟨55, _⟩ => ⟨S_, .i32⟩
  | .hbm, ⟨56, _⟩ => ⟨S82944, .i32⟩
  | .hbm, ⟨57, _⟩ => ⟨S82944, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S82944, .i32⟩
  | .hbm, ⟨62, _⟩ => ⟨S82944, .i32⟩
  | .hbm, ⟨63, _⟩ => ⟨S_, .i32⟩
  | .hbm, ⟨64, _⟩ => ⟨S82944, .i32⟩
  | .hbm, ⟨65, _⟩ => ⟨S82944, .i32⟩
  | .hbm, ⟨66, _⟩ => ⟨S8x3x262144, .f32⟩
  | .hbm, ⟨67, _⟩ => ⟨S_, .i32⟩
  | .hbm, ⟨68, _⟩ => ⟨S82944, .i32⟩
  | .hbm, ⟨69, _⟩ => ⟨S82944, .i32⟩
  | .hbm, ⟨70, _⟩ => ⟨S82944, .i32⟩
  | .hbm, ⟨71, _⟩ => ⟨S_, .i32⟩
  | .hbm, ⟨72, _⟩ => ⟨S82944, .i32⟩
  | .hbm, ⟨73, _⟩ => ⟨S82944, .i1⟩
  | .hbm, ⟨74, _⟩ => ⟨S_, .i32⟩
  | .hbm, ⟨75, _⟩ => ⟨S82944, .i32⟩
  | .hbm, ⟨76, _⟩ => ⟨S82944, .i32⟩
  | .hbm, ⟨77, _⟩ => ⟨S82944, .i32⟩
  | .hbm, ⟨78, _⟩ => ⟨S82944x1, .i32⟩
  | .hbm, ⟨79, _⟩ => ⟨S1, .i32⟩
  | .hbm, ⟨80, _⟩ => ⟨S_, .i32⟩
  | .hbm, ⟨81, _⟩ => ⟨S82944x1, .i32⟩
  | .hbm, ⟨82, _⟩ => ⟨S82944x1, .i1⟩
  | .hbm, ⟨83, _⟩ => ⟨S1x1, .i32⟩
  | .hbm, ⟨84, _⟩ => ⟨S82944x1, .i32⟩
  | .hbm, ⟨85, _⟩ => ⟨S82944x1, .i1⟩
  | .hbm, ⟨86, _⟩ => ⟨S82944x1, .i1⟩
  | .hbm, ⟨87, _⟩ => ⟨S_, .i1⟩
  | .hbm, ⟨88, _⟩ => ⟨S82944, .i1⟩
  | .hbm, ⟨89, _⟩ => ⟨S8x3x82944, .f32⟩
  | .hbm, ⟨90, _⟩ => ⟨S8x3x82944, .i1⟩
  | .hbm, ⟨91, _⟩ => ⟨S_, .f32⟩
  | .hbm, ⟨92, _⟩ => ⟨S8x3x82944, .f32⟩
  | .hbm, ⟨93, _⟩ => ⟨S8x3x82944, .f32⟩
  | .hbm, ⟨94, _⟩ => ⟨S1x1x82944, .f32⟩
  | .hbm, ⟨95, _⟩ => ⟨S8x3x82944, .f32⟩
  | .hbm, ⟨96, _⟩ => ⟨S8x3x82944, .f32⟩
  | .hbm, ⟨97, _⟩ => ⟨S82944, .i32⟩
  | .hbm, ⟨98, _⟩ => ⟨S_, .i32⟩
  | .hbm, ⟨99, _⟩ => ⟨S82944, .i32⟩
  | .hbm, ⟨100, _⟩ => ⟨S82944, .i1⟩
  | .hbm, ⟨101, _⟩ => ⟨S_, .i32⟩
  | .hbm, ⟨102, _⟩ => ⟨S82944, .i32⟩
  | .hbm, ⟨103, _⟩ => ⟨S82944, .i32⟩
  | .hbm, ⟨104, _⟩ => ⟨S82944, .i32⟩
  | .hbm, ⟨105, _⟩ => ⟨S82944x1, .i32⟩
  | .hbm, ⟨106, _⟩ => ⟨S1, .i32⟩
  | .hbm, ⟨107, _⟩ => ⟨S_, .i32⟩
  | .hbm, ⟨108, _⟩ => ⟨S82944x1, .i32⟩
  | .hbm, ⟨109, _⟩ => ⟨S82944x1, .i1⟩
  | .hbm, ⟨110, _⟩ => ⟨S1x1, .i32⟩
  | .hbm, ⟨111, _⟩ => ⟨S82944x1, .i32⟩
  | .hbm, ⟨112, _⟩ => ⟨S82944x1, .i1⟩
  | .hbm, ⟨113, _⟩ => ⟨S82944x1, .i1⟩
  | .hbm, ⟨114, _⟩ => ⟨S_, .i1⟩
  | .hbm, ⟨115, _⟩ => ⟨S82944, .i1⟩
  | .hbm, ⟨116, _⟩ => ⟨S8x3x82944, .f32⟩
  | .hbm, ⟨117, _⟩ => ⟨S8x3x82944, .i1⟩
  | .hbm, ⟨118, _⟩ => ⟨S_, .f32⟩
  | .hbm, ⟨119, _⟩ => ⟨S8x3x82944, .f32⟩
  | .hbm, ⟨120, _⟩ => ⟨S8x3x82944, .f32⟩
  | .hbm, ⟨121, _⟩ => ⟨S8x3x9216x9, .f32⟩
  | .hbm, ⟨122, _⟩ => ⟨S_, .f32⟩
  | .hbm, ⟨123, _⟩ => ⟨S8x3x9216, .f32⟩
  | .hbm, ⟨124, _⟩ => ⟨S_, .f32⟩
  | .hbm, ⟨125, _⟩ => ⟨S8x3x9216, .f32⟩
  | .hbm, ⟨126, _⟩ => ⟨S8x3x9216, .f32⟩
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c : Ref sig .tc := ⟨.hbm, 34, rfl⟩
abbrev main_v27 : Ref sig .tc := ⟨.hbm, 35, rfl⟩
abbrev main_v28 : Ref sig .tc := ⟨.hbm, 36, rfl⟩
abbrev main_c_1 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_4 : Ref sig .tc := ⟨.hbm, 50, rfl⟩
abbrev main_c_5 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v39 : Ref sig .tc := ⟨.hbm, 57, rfl⟩
abbrev main_c_6 : Ref sig .tc := ⟨.hbm, 58, rfl⟩
abbrev main_c_7 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v40 : Ref sig .tc := ⟨.hbm, 65, rfl⟩
abbrev main_v41 : Ref sig .tc := ⟨.hbm, 66, rfl⟩
abbrev main_c_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_call4_c : Ref sig .tc := ⟨.hbm, 71, rfl⟩
abbrev main_call4_v0 : Ref sig .tc := ⟨.hbm, 72, rfl⟩
abbrev main_call4_v1 : Ref sig .tc := ⟨.hbm, 73, rfl⟩
abbrev main_call4_c_0 : Ref sig .tc := ⟨.hbm, 74, rfl⟩
abbrev main_call4_v2 : Ref sig .tc := ⟨.hbm, 75, rfl⟩
abbrev main_call4_v3 : Ref sig .tc := ⟨.hbm, 76, rfl⟩
abbrev main_call4_v4 : Ref sig .tc := ⟨.hbm, 77, rfl⟩
abbrev main_call4_v5 : Ref sig .tc := ⟨.hbm, 78, rfl⟩
abbrev main_call4_c_1 : Ref sig .tc := ⟨.hbm, 79, rfl⟩
abbrev main_call4_c_2 : Ref sig .tc := ⟨.hbm, 80, rfl⟩
abbrev main_call4_v6 : Ref sig .tc := ⟨.hbm, 81, rfl⟩
abbrev main_call4_v7 : Ref sig .tc := ⟨.hbm, 82, rfl⟩
abbrev main_call4_v8 : Ref sig .tc := ⟨.hbm, 83, rfl⟩
abbrev main_call4_v9 : Ref sig .tc := ⟨.hbm, 84, rfl⟩
abbrev main_call4_v10 : Ref sig .tc := ⟨.hbm, 85, rfl⟩
abbrev main_call4_v11 : Ref sig .tc := ⟨.hbm, 86, rfl⟩
abbrev main_call4_c_3 : Ref sig .tc := ⟨.hbm, 87, rfl⟩
abbrev main_call4_v12 : Ref sig .tc := ⟨.hbm, 88, rfl⟩
abbrev main_call4_v13 : Ref sig .tc := ⟨.hbm, 89, rfl⟩
abbrev main_call4_v14 : Ref sig .tc := ⟨.hbm, 90, rfl⟩
abbrev main_call4_cst : Ref sig .tc := ⟨.hbm, 91, rfl⟩
abbrev main_call4_v15 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_v14 : Ref sig .tc := ⟨.hbm, 117, rfl⟩
abbrev main_call5_cst : Ref sig .tc := ⟨.hbm, 118, rfl⟩
abbrev main_call5_v15 : Ref sig .tc := ⟨.hbm, 119, rfl⟩
abbrev main_v50 : Ref sig .tc := ⟨.hbm, 120, rfl⟩
abbrev main_v51 : Ref sig .tc := ⟨.hbm, 121, rfl⟩
abbrev main_cst_9 : Ref sig .tc := ⟨.hbm, 122, rfl⟩
abbrev main_v52 : Ref sig .tc := ⟨.hbm, 123, rfl⟩
abbrev main_cst_10 : Ref sig .tc := ⟨.hbm, 124, rfl⟩
abbrev main_v53 : Ref sig .tc := ⟨.hbm, 125, rfl⟩
abbrev main_v54 : Ref sig .tc := ⟨.hbm, 126, rfl⟩

abbrev nD : Nat := 1
abbrev τ : Topo := Topo.v7x

variable {F : FTy → Type} [FloatOps F]
-- ==== Proof.ITile.lean ====
/-
  The tile program of the kernel in a regular form.

  The printed tile program is a straight line of 24 planes, each with its own accumulation loop.  Here the same
  program is written once per KIND of step — start the gather of a plane, drain a plane (wait, accumulate, copy
  out) — and `kern_eq` says the printed program is the sequence of those steps.
-/
module

public import proofs.«01_k».proof.Proof.Gen.KernelIdeal
public import proofs.«01_k».proof.Proof.Gen.KernelIdeal.Skeleton
public import Idealize.ShloMosaic.Lib.SparseCore.Ops
public import Idealize.ShloMosaic.Lib.Tactic

@[expose] public section

noncomputable section

namespace Cert.Proof.I

open Cert.KernelIdeal Cert.KernelIdeal.Gen
open Idealize.ShloMosaic Idealize.SL.Sem

variable {F : FTy → Type} [FloatOps F] [Named F]

/-! ## The arrays and scratch buffers as the tile program names them -/

abbrev imgM : Memref sig .scVector .hbm S6291456 .f32 := Memref.whole main_v0_scv
abbrev gxM : Memref sig .scVector .hbm S82944 .f32 := Memref.whole main_v2_scv
abbrev gyM : Memref sig .scVector .hbm S82944 .f32 := Memref.whole main_v4_scv
abbrev parM : Memref sig .scVector .hbm S3x16 .f32 := Memref.whole main_v20_scv
abbrev knnM : Memref sig .scVector .hbm S32x2592 .i32 := Memref.whole main_v7_scv
abbrev outM : Memref sig .scVector .hbm S221184 .f32 := Memref.whole main_v21_scv
abbrev knV : Memref sig .scVector .vmem S2592 .i32 := Memref.whole cc0_scratch0
abbrev gxV : Memref sig .scVector .vmem S2592 .f32 := Memref.whole cc0_scratch1
abbrev gyV : Memref sig .scVector .vmem S2592 .f32 := Memref.whole cc0_scratch2
abbrev faV : Memref sig .scVector .vmem S2592 .i32 := Memref.whole cc0_scratch3
abbrev wV : Memref sig .scVector .vmem S2592 .f32 := Memref.whole cc0_scratch4
abbrev aV : Memref sig .scVector .vmem S2592 .f32 := Memref.whole cc0_scratch5
abbrev bV : Memref sig .scVector .vmem S2592 .f32 := Memref.whole cc0_scratch6
abbrev ouV : Memref sig .scVector .vmem S288 .f32 := Memref.whole cc0_scratch7
abbrev paV : Memref sig .scVector .vmem S3x16 .f32 := Memref.whole cc0_scratch8

/-- The tile programs' type at grid point `L`. -/
abbrev TP (F : FTy → Type) [FloatOps F] (L : grid0.Coords) : Type → Type 1 :=
  Prog (TpuEff nD τ sig (Elt F) Λ₀ (.scVector ((L 0).castLE hcore0) ((L 1).castLE hsub0)))

/-- The printed tile program on the arrays the launch calls it with. -/
abbrev kern (L : grid0.Coords) : TP F L PUnit :=
  cc0_sc_kernel L imgM (Memref.isWhole_whole _) gxM (Memref.isWhole_whole _) gyM (Memref.isWhole_whole _)
    parM (Memref.isWhole_whole _) knnM (Memref.isWhole_whole _) outM (Memref.isWhole_whole _)
    knV (Memref.isWhole_whole _) gxV (Memref.isWhole_whole _) gyV (Memref.isWhole_whole _) faV (Memref.isWhole_whole _)
    wV (Memref.isWhole_whole _) aV (Memref.isWhole_whole _) bV (Memref.isWhole_whole _) ouV (Memref.isWhole_whole _)
    paV (Memref.isWhole_whole _) cc0_scratch9 cc0_scratch10
    cc0_scoped0 cc0_scoped1 cc0_scoped2 cc0_scoped3 cc0_scoped4 cc0_scoped5 cc0_scoped6 cc0_scoped7 cc0_scoped8
    cc0_scoped9 cc0_scoped10 cc0_scoped11 cc0_scoped12 cc0_scoped13 cc0_scoped14 cc0_scoped15 cc0_scoped16
    cc0_scoped17 cc0_scoped18 cc0_scoped19 cc0_scoped20 cc0_scoped21 cc0_scoped22 cc0_scoped23 cc0_scoped24 cc0_scoped25

/-! ## The steps -/

theorem plane_inb (p : ℕ) (hp : p < 24) : ∀ a, (![262144 * p] : Fin 1 → Nat) a + S262144.size a ≤ S6291456.size a := by
  intro a
  match a with
  | 0 => show 262144 * p + 262144 ≤ 6291456; omega

/-- Plane `p` of the image, as the gathers address it. -/
abbrev plane (p : ℕ) (hp : p < 24) : Memref sig .scVector .hbm S262144 .f32 :=
  ((imgM).slice (Rect.unit (s := S6291456) ![262144 * p] S262144.size (plane_inb p hp)) (fun _ => rfl)).slice
    (Rect.unit (s := S262144) ![0] S262144.size inb_S262144_S262144_0) (fun _ => rfl)

/-- Piece `p` of the output that the tile at `L` writes. -/
abbrev outP (L : grid0.Coords) (p : Fin 24) : Memref sig .scVector .hbm S288 .f32 :=
  (outM).slice (Rect.unit (s := S221184) (k0_off6 L (BitVec.ofNat 32 (9216 * p.val))) S288.size (k0_off6_inb L p)) (fun _ => rfl)

/-- Start the gather of plane `p` into `buf`, completing on `sem`. -/
def issue (L : grid0.Coords) (p : ℕ) (hp : p < 24) (buf : Memref sig .scVector .vmem S2592 .f32) (sem : DmaSems sig S_) : TP F L PUnit :=
  SparseCore.enqueueIndirectGather rfl (plane p hp) buf gathers_S262144_S2592 faV rfl sem.sem (View.wordExact_bits rfl) rfl (Or.inl rfl)

/-- One trip of an accumulation loop over the gathered values in `buf`: sixteen outputs, nine products each. -/
def accBody (L : grid0.Coords) (buf : Memref sig .scVector .vmem S2592 .f32) : Fin k0_t2_loop.trips → Unit → TP F L Unit :=
  fun t _ => do
    let a0 : Vec F S16 .f32 ← Prog.lift (.load buf (Rect.unit (s := S2592) (k0_off3 t) S16.size (k0_off3_inb t)).toLoadRect (View.loadsAt_vmem h_S16))
    let b0 : Vec F S16 .f32 ← Prog.lift (.load wV (Rect.unit (s := S2592) (k0_off3 t) S16.size (k0_off3_inb t)).toLoadRect (View.loadsAt_vmem h_S16))
    let a1 : Vec F S16 .f32 ← Prog.lift (.load buf (Rect.unit (s := S2592) (k0_off4 t 288#32) S16.size (k0_off4_inb t 0)).toLoadRect (View.loadsAt_vmem h_S16))
    let b1 : Vec F S16 .f32 ← Prog.lift (.load wV (Rect.unit (s := S2592) (k0_off4 t 288#32) S16.size (k0_off4_inb t 0)).toLoadRect (View.loadsAt_vmem h_S16))
    let a2 : Vec F S16 .f32 ← Prog.lift (.load buf (Rect.unit (s := S2592) (k0_off4 t 576#32) S16.size (k0_off4_inb t 1)).toLoadRect (View.loadsAt_vmem h_S16))
    let b2 : Vec F S16 .f32 ← Prog.lift (.load wV (Rect.unit (s := S2592) (k0_off4 t 576#32) S16.size (k0_off4_inb t 1)).toLoadRect (View.loadsAt_vmem h_S16))
    let a3 : Vec F S16 .f32 ← Prog.lift (.load buf (Rect.unit (s := S2592) (k0_off4 t 864#32) S16.size (k0_off4_inb t 2)).toLoadRect (View.loadsAt_vmem h_S16))
    let b3 : Vec F S16 .f32 ← Prog.lift (.load wV (Rect.unit (s := S2592) (k0_off4 t 864#32) S16.size (k0_off4_inb t 2)).toLoadRect (View.loadsAt_vmem h_S16))
    let a4 : Vec F S16 .f32 ← Prog.lift (.load buf (Rect.unit (s := S2592) (k0_off4 t 1152#32) S16.size (k0_off4_inb t 3)).toLoadRect (View.loadsAt_vmem h_S16))
    let b4 : Vec F S16 .f32 ← Prog.lift (.load wV (Rect.unit (s := S2592) (k0_off4 t 1152#32) S16.size (k0_off4_inb t 3)).toLoadRect (View.loadsAt_vmem h_S16))
    let a5 : Vec F S16 .f32 ← Prog.lift (.load buf (Rect.unit (s := S2592) (k0_off4 t 1440#32) S16.size (k0_off4_inb t 4)).toLoadRect (View.loadsAt_vmem h_S16))
    let b5 : Vec F S16 .f32 ← Prog.lift (.load wV (Rect.unit (s := S2592) (k0_off4 t 1440#32) S16.size (k0_off4_inb t 4)).toLoadRect (View.loadsAt_vmem h_S16))
    let a6 : Vec F S16 .f32 ← Prog.lift (.load buf (Rect.unit (s := S2592) (k0_off4 t 1728#32) S16.size (k0_off4_inb t 5)).toLoadRect (View.loadsAt_vmem h_S16))
    let b6 : Vec F S16 .f32 ← Prog.lift (.load wV (Rect.unit (s := S2592) (k0_off4 t 1728#32) S16.size (k0_off4_inb t 5)).toLoadRect (View.loadsAt_vmem h_S16))
    let a7 : Vec F S16 .f32 ← Prog.lift (.load buf (Rect.unit (s := S2592) (k0_off4 t 2016#32) S16.size (k0_off4_inb t 6)).toLoadRect (View.loadsAt_vmem h_S16))
    let b7 : Vec F S16 .f32 ← Prog.lift (.load wV (Rect.unit (s := S2592) (k0_off4 t 2016#32) S16.size (k0_off4_inb t 6)).toLoadRect (View.loadsAt_vmem h_S16))
    let a8 : Vec F S16 .f32 ← Prog.lift (.load buf (Rect.unit (s := S2592) (k0_off4 t 2304#32) S16.size (k0_off4_inb t 7)).toLoadRect (View.loadsAt_vmem h_S16))
    let b8 : Vec F S16 .f32 ← Prog.lift (.load wV (Rect.unit (s := S2592) (k0_off4 t 2304#32) S16.size (k0_off4_inb t 7)).toLoadRect (View.loadsAt_vmem h_S16))
    let _o : Vec F S16 .f32 ← Prog.lift (.load ouV (Rect.unit (s := S288) (k0_off5 t) S16.size (k0_off5_inb t)).toLoadRect (View.loadsAt_vmem h_S16))
    Prog.lift (.store ouV (Rect.unit (s := S288) (k0_off5 t) S16.size (k0_off5_inb t))
      (k0_pay34 (k0_pay5 a0 b0 a1 b1 a2 b2 a3 b3 a4 b4 a5 b5) a6 b6 a7 b7 a8 b8) Finset.univ (View.stores_vmem_bits_univ h_S16 rfl) (.inl rfl))
    pure ⟨⟩

/-- Wait for plane `p` in `buf`, accumulate it, and copy the 288 outputs to their place. -/
def drain (L : grid0.Coords) (p : Fin 24) (buf : Memref sig .scVector .vmem S2592 .f32) (hbuf : buf.IsWhole) (sem rsem : DmaSems sig S_) : TP F L PUnit := do
  SparseCore.waitIndirectGather sem.sem (plane p.val p.isLt) buf (View.wordExact_bits rfl) hbuf.wordExact
  Scf.Loop.for k0_t2_loop k0_t2_ok ⟨⟩ (accBody L buf)
  Prog.lift (.enqueueDma ouV (.here (outP L p)) (.dma rsem.sem) (Memref.isWhole_whole _).wordExact (View.wordExact_bits rfl) ⟨Or.inl rfl, trivial⟩)
  Prog.lift (.waitDma2 rsem.sem ouV (outP L p) (Memref.isWhole_whole _).wordExact (View.wordExact_bits rfl))

/-- One trip of the address loop: sixteen pixel addresses and weights from the gathered coordinates. -/
def addrBody (L : grid0.Coords) (v7 v10 v13 : Vec F S1x16 .f32) : Fin k0_t1_loop.trips → Unit → TP F L Unit :=
  fun t _ => do
    let gx : Vec F S16 .f32 ← Prog.lift (.load gxV (Rect.unit (s := S2592) (k0_off2 t) S16.size (k0_off2_inb t)).toLoadRect (View.loadsAt_vmem h_S16))
    let gy : Vec F S16 .f32 ← Prog.lift (.load gyV (Rect.unit (s := S2592) (k0_off2 t) S16.size (k0_off2_inb t)).toLoadRect (View.loadsAt_vmem h_S16))
    let _f : Vec F S16 .i32 ← Prog.lift (.load faV (Rect.unit (s := S2592) (k0_off2 t) S16.size (k0_off2_inb t)).toLoadRect (View.loadsAt_vmem h_S16))
    Prog.lift (.store faV (Rect.unit (s := S2592) (k0_off2 t) S16.size (k0_off2_inb t))
      (k0_pay32 (k0_pay3 (k0_pay29 v7) (k0_pay31 v13) gx) (k0_pay4 (k0_pay30 v10) (k0_pay31 v13) gy)) Finset.univ (View.stores_vmem_bits_univ h_S16 rfl) (.inl rfl))
    let _w : Vec F S16 .f32 ← Prog.lift (.load wV (Rect.unit (s := S2592) (k0_off2 t) S16.size (k0_off2_inb t)).toLoadRect (View.loadsAt_vmem h_S16))
    Prog.lift (.store wV (Rect.unit (s := S2592) (k0_off2 t) S16.size (k0_off2_inb t))
      (k0_pay33 (F := F) (k0_pay3 (k0_pay29 v7) (k0_pay31 v13) gx) (k0_pay4 (k0_pay30 v10) (k0_pay31 v13) gy) 0#32) Finset.univ (View.stores_vmem_bits_univ h_S16 rfl) (.inl rfl))
    pure ⟨⟩

/-- The tile's row of the neighbour indices. -/
abbrev knnRow (L : grid0.Coords) : Memref sig .scVector .hbm S2592 .i32 :=
  ((knnM).slice (Rect.unit (s := S32x2592) (k0_off1 L) S1x2592.size (k0_off1_inb L)) (fun _ => rfl)).squeeze S2592 squeezes_S1x2592_S2592
abbrev gxAll : Memref sig .scVector .hbm S82944 .f32 :=
  (gxM).slice (Rect.unit (s := S82944) ![0] S82944.size inb_S82944_S82944_0) (fun _ => rfl)
abbrev gyAll : Memref sig .scVector .hbm S82944 .f32 :=
  (gyM).slice (Rect.unit (s := S82944) ![0] S82944.size inb_S82944_S82944_0) (fun _ => rfl)

/-- Everything before the first plane: the parameters, the tile's neighbour indices and their coordinates, and the
    loop that turns these into addresses and weights. -/
def prelude (L : grid0.Coords) : TP F L PUnit := do
  Prog.lift (.enqueueDma parM (.here paV) (.dma cc0_scoped0.sem) (Memref.isWhole_whole _).wordExact (Memref.isWhole_whole _).wordExact ⟨Or.inl rfl, trivial⟩)
  Prog.lift (.waitDma2 cc0_scoped0.sem parM paV (Memref.isWhole_whole _).wordExact (Memref.isWhole_whole _).wordExact)
  Prog.lift (.enqueueDma (knnRow L) (.here knV) (.dma cc0_scoped1.sem) ((View.wordExact_bits rfl).reshape _ _) (Memref.isWhole_whole _).wordExact ⟨Or.inl rfl, trivial⟩)
  Prog.lift (.waitDma2 cc0_scoped1.sem (knnRow L) knV ((View.wordExact_bits rfl).reshape _ _) (Memref.isWhole_whole _).wordExact)
  SparseCore.enqueueIndirectGather rfl gxAll gxV gathers_S82944_S2592 knV rfl cc0_scratch9.sem (View.wordExact_bits rfl) rfl (Or.inl rfl)
  SparseCore.waitIndirectGather cc0_scratch9.sem gxAll gxV (View.wordExact_bits rfl) (Memref.isWhole_whole _).wordExact
  SparseCore.enqueueIndirectGather rfl gyAll gyV gathers_S82944_S2592 knV rfl cc0_scratch9.sem (View.wordExact_bits rfl) rfl (Or.inl rfl)
  SparseCore.waitIndirectGather cc0_scratch9.sem gyAll gyV (View.wordExact_bits rfl) (Memref.isWhole_whole _).wordExact
  let v7 : Vec F S1x16 .f32 ← Prog.lift (.load paV (Rect.unit (s := S3x16) ![0, 0] S1x16.size inb_S3x16_S1x16_0_0).toLoadRect (View.loadsAt_vmem h_S1x16))
  let v10 : Vec F S1x16 .f32 ← Prog.lift (.load paV (Rect.unit (s := S3x16) ![1, 0] S1x16.size inb_S3x16_S1x16_1_0).toLoadRect (View.loadsAt_vmem h_S1x16))
  let v13 : Vec F S1x16 .f32 ← Prog.lift (.load paV (Rect.unit (s := S3x16) ![2, 0] S1x16.size inb_S3x16_S1x16_2_0).toLoadRect (View.loadsAt_vmem h_S1x16))
  Scf.Loop.for k0_t1_loop k0_t1_ok ⟨⟩ (addrBody L v7 v10 v13)

/-! ## The whole program -/

/-- Plane `p` is gathered into the first buffer when `p` is even, into the second when odd; its semaphore likewise. -/
def bufM (p : ℕ) : Memref sig .scVector .vmem S2592 .f32 := if p % 2 = 0 then aV else bV
theorem bufM_whole (p : ℕ) : (bufM p).IsWhole := by unfold bufM; split <;> exact Memref.isWhole_whole _
def bufS (p : ℕ) : DmaSems sig S_ := if p % 2 = 0 then cc0_scratch9 else cc0_scratch10
/-- The semaphore of plane `p`'s copy to the output. -/
def outS (p : Fin 24) : DmaSems sig S_ :=
  SemArray.consecutive (4 + p.val) S_ (by have := p.isLt; show 4 + p.val + 1 ≤ 28; omega)

/-- Round `p`: start the gather of plane `p + 1`, then drain plane `p`. -/
def round (L : grid0.Coords) (p : Fin 23) : TP F L PUnit := do
  issue L (p.val + 1) (by omega) (bufM (p.val + 1)) (bufS (p.val + 1))
  drain L ⟨p.val, by omega⟩ (bufM p.val) (bufM_whole p.val) (bufS p.val) (outS ⟨p.val, by omega⟩)

/-- The tile program: the prelude, the first gather, 23 rounds, the last plane drained. -/
def kern' (L : grid0.Coords) : TP F L PUnit := do
  prelude L
  issue L 0 (by omega) (bufM 0) (bufS 0)
  Scf.forFrom (fun (p : Fin 23) (_ : PUnit) => round L p) (List.finRange 23) ⟨⟩
  drain L ⟨23, by omega⟩ (bufM 23) (bufM_whole 23) (bufS 23) (outS ⟨23, by omega⟩)

/-- The 23 rounds, in order. -/
theorem finRange_list : List.finRange 23 = [0,1,2,3,4,5,6,7,8,9,10,11,12,13,14,15,16,17,18,19,20,21,22] := by decide
set_option maxRecDepth 65536 in
/-- The printed tile program is the sequence of steps. -/
theorem kern_eq (L : grid0.Coords) : kern (F := F) L = kern' L := by
  unfold kern kern'
  rw [finRange_list, cc0_sc_kernel_eq_skeleton]
  simp only [cc0_sc_kernel_skel, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton,
   k0_part26_skel, k0_part27_skel, k0_part28_skel, k0_part29_skel, k0_part30_skel, k0_part31_skel, k0_part32_skel, k0_part33_skel, k0_part34_skel, k0_part35_skel, k0_part36_skel, prelude, round, drain, issue, Scf.forFrom, bind_assoc, Prog.lift, Prog.bind_op, Prog.bind_ret, Prog.pure_eq_ret, pure_bind]
  rfl
end Cert.Proof.I

end
-- ==== Proof.ILoops.lean ====
/-
  The values a tile computes, and its two kinds of loop.

  `fa`, `wt` — the pixel address and the weight of each of the tile's 2592 samples — and `acc` — a plane's 288 outputs,
  nine weighted samples each — are written here as functions on indices; `wp_addr` and `wp_acc` say the address loop
  and an accumulation loop leave them in the buffers.
-/
module

public import proofs.«01_k».proof.Proof.ITile
public import Idealize.ShloMosaic.Lib.SparseCore.Quiescent
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.WritesUnit
public import Idealize.ShloMosaic.Lib.ShareLeaves

@[expose] public section

noncomputable section

namespace Cert.Proof.I

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## Indices of one-axis arrays -/

/-- The index `k` (modulo the extent) of a one-axis shape. -/
def lin (n : ℕ) [NeZero n] (k : ℕ) : (⟨1, ![n]⟩ : Shape).Idx :=
  fun a => ⟨k % n, by match a with | 0 => exact Nat.mod_lt _ (Nat.pos_of_ne_zero (NeZero.ne n))⟩

theorem lin_val (n : ℕ) [NeZero n] (k : ℕ) (h : k < n) : (lin n k 0).val = k := Nat.mod_eq_of_lt h
theorem lin_self (n : ℕ) [NeZero n] (x : (⟨1, ![n]⟩ : Shape).Idx) : lin n (x 0).val = x := by
  funext a
  match a with
  | 0 => exact Fin.ext (Nat.mod_eq_of_lt (x 0).isLt)
theorem idx1_ext {n : ℕ} {x y : (⟨1, ![n]⟩ : Shape).Idx} (h : (x 0).val = (y 0).val) : x = y := by
  funext a
  match a with
  | 0 => exact Fin.ext h

/-- Sixteen lanes loaded from a one-axis buffer at offset `o` are its elements `o`, …, `o + 15`. -/
theorem ld16 {sg : RefSig} {κ : Kind} {sp : Space} {e : EltTy} {n : ℕ} [NeZero n] {Val : EltTy → Type} (v : View sg κ sp ⟨1, ![n]⟩ e)
    (f : v.ty.Contents Val) (off : Fin 1 → ℕ) (inb : ∀ a, off a + S16.size a ≤ (⟨1, ![n]⟩ : Shape).size a) (o : ℕ) (ho : off = ![o]) (x : S16.Idx) :
    v.readAt Val (Rect.unit (s := ⟨1, ![n]⟩) off S16.size inb).toLoadRect f x = v.read Val f (lin n (o + (x 0).val)) := by
  subst ho
  rw [View.readAt_apply]
  refine congrArg _ (idx1_ext ?_)
  have h0 : o + 16 ≤ n := inb 0
  have hx : (x 0).val < 16 := (x 0).isLt
  rw [lin_val _ _ (by omega)]
  show o + 1 * (x 0).val = _
  omega

/-- A one-axis buffer after sixteen lanes are stored at offset `o`. -/
theorem st16 {sg : RefSig} {κ : Kind} {sp : Space} {e : EltTy} {n : ℕ} [NeZero n] {Val : EltTy → Type} (m : Memref sg κ sp ⟨1, ![n]⟩ e)
    (f : m.view.ty.Contents Val) (off : Fin 1 → ℕ) (inb : ∀ a, off a + S16.size a ≤ (⟨1, ![n]⟩ : Shape).size a) (o : ℕ) (ho : off = ![o])
    (w : S16.Idx → Val e) (y : (⟨1, ![n]⟩ : Shape).Idx) :
    m.view.read Val ((m.access (Rect.unit (s := ⟨1, ![n]⟩) off S16.size inb)).write Val f w Finset.univ) y
      = if o ≤ (y 0).val ∧ (y 0).val < o + 16 then w (lin 16 ((y 0).val - o)) else m.view.read Val f y := by
  subst ho
  have e : (m.access (Rect.unit (s := ⟨1, ![n]⟩) ![o] S16.size inb)).write Val f w Finset.univ
      = m.view.writes Val f [⟨Rect.unit (s := ⟨1, ![n]⟩) ![o] S16.size inb, w⟩] := rfl
  rw [e]
  split
  · rename_i h
    refine View.read_writes_cons_unit_of_mem (off' := ![o]) m.view f inb w [] y (lin 16 ((y 0).val - o)) rfl ?_
    intro a
    match a with
    | 0 =>
      rw [lin_val _ _ (by omega)]
      show (y 0).val = o + _
      omega
  · rename_i h
    refine (View.read_writes_cons_unit_of_not_mem (off' := ![o]) m.view f inb w [] y rfl 0 ?_).trans rfl
    show (y 0).val < o ∨ o + 16 ≤ (y 0).val
    omega

/-! ## Offsets in closed form -/

theorem off2_eq : ∀ t : Fin k0_t1_loop.trips, k0_off2 t = ![16 * t.val] := by decide +kernel
theorem off3_eq : ∀ t : Fin k0_t2_loop.trips, k0_off3 t = ![16 * t.val] := by decide +kernel
theorem off4_eq : ∀ (t : Fin k0_t2_loop.trips) (r : Fin 8), k0_off4 t (BitVec.ofNat 32 (288 + 288 * r.val)) = ![288 * (r.val + 1) + 16 * t.val] := by decide +kernel
theorem off5_eq : ∀ t : Fin k0_t2_loop.trips, k0_off5 t = ![16 * t.val] := by decide +kernel
theorem trips1 : k0_t1_loop.trips = 162 := by decide +kernel
theorem trips2 : k0_t2_loop.trips = 18 := by decide +kernel

/-! ## The values -/

def lane0 : S16.Idx := lin 16 0

/-- The rounded x coordinate of a sample: `u + s * g` rounded half to even. -/
def pxS (u g s : F .f32) : BitVec 32 := k0_pay3 (F := F) (fun _ => u) (fun _ => g) (fun _ => s) lane0
/-- The rounded y coordinate of a sample: `v - s * g` rounded half to even. -/
def pyS (v g s : F .f32) : BitVec 32 := k0_pay4 (F := F) (fun _ => v) (fun _ => g) (fun _ => s) lane0
/-- The flat address of the pixel at `(px, py)`, each clamped into the image. -/
def faS (px py : BitVec 32) : BitVec 32 := k0_pay32 (fun _ => px) (fun _ => py) lane0
/-- The weight of the pixel at `(px, py)`: a ninth inside the image, zero outside. -/
def wS (px py : BitVec 32) : F .f32 := k0_pay33 (F := F) (fun _ => px) (fun _ => py) 0#32 lane0
/-- Nine products, added from the left. -/
def sum9 (a b : Fin 9 → F .f32) : F .f32 :=
  FloatOps.addf (FloatOps.addf (FloatOps.addf (FloatOps.addf (FloatOps.addf (FloatOps.addf (FloatOps.addf (FloatOps.addf
    (FloatOps.mulf (a 0) (b 0)) (FloatOps.mulf (a 1) (b 1))) (FloatOps.mulf (a 2) (b 2))) (FloatOps.mulf (a 3) (b 3))) (FloatOps.mulf (a 4) (b 4)))
    (FloatOps.mulf (a 5) (b 5))) (FloatOps.mulf (a 6) (b 6))) (FloatOps.mulf (a 7) (b 7))) (FloatOps.mulf (a 8) (b 8))

/-- A plane's outputs from its gathered samples `a` and their weights `b`: output `j` sums samples `j`, `288 + j`, …. -/
def acc (a b : S2592.Idx → F .f32) : S288.Idx → F .f32 :=
  fun j => sum9 (fun k => a (lin 2592 (288 * k.val + (j 0).val))) (fun k => b (lin 2592 (288 * k.val + (j 0).val)))

theorem pay3_apply (u g s : FVec F S16 .f32) (x : S16.Idx) : k0_pay3 (F := F) u g s x = pxS (u x) (g x) (s x) := by
  unfold pxS k0_pay3; simp only [shapeCast_self]; rfl
theorem pay4_apply (u g s : FVec F S16 .f32) (x : S16.Idx) : k0_pay4 (F := F) u g s x = pyS (u x) (g x) (s x) := by
  unfold pyS k0_pay4; simp only [shapeCast_self]; rfl
theorem pay32_apply (a b : IVec S16 32) (x : S16.Idx) : k0_pay32 a b x = faS (a x) (b x) := by
  unfold faS k0_pay32; simp only [shapeCast_self, addi, muli, minsi, maxsi, broadcast]
theorem pay33_apply (a b : IVec S16 32) (x : S16.Idx) : k0_pay33 (F := F) a b 0#32 x = wS (a x) (b x) := by
  unfold wS k0_pay33; simp only [shapeCast_self]; rfl
theorem pay345_apply (a0 b0 a1 b1 a2 b2 a3 b3 a4 b4 a5 b5 a6 b6 a7 b7 a8 b8 : Vec F S16 .f32) (x : S16.Idx) (a b : Fin 9 → F .f32)
    (h : ((a0 x = a 0 ∧ b0 x = b 0) ∧ (a1 x = a 1 ∧ b1 x = b 1) ∧ (a2 x = a 2 ∧ b2 x = b 2) ∧ (a3 x = a 3 ∧ b3 x = b 3) ∧ (a4 x = a 4 ∧ b4 x = b 4))
      ∧ (a5 x = a 5 ∧ b5 x = b 5) ∧ (a6 x = a 6 ∧ b6 x = b 6) ∧ (a7 x = a 7 ∧ b7 x = b 7) ∧ (a8 x = a 8 ∧ b8 x = b 8)) :
    k0_pay34 (F := F) (k0_pay5 a0 b0 a1 b1 a2 b2 a3 b3 a4 b4 a5 b5) a6 b6 a7 b7 a8 b8 x = sum9 a b := by
  obtain ⟨⟨⟨h0, g0⟩, ⟨h1, g1⟩, ⟨h2, g2⟩, ⟨h3, g3⟩, h4, g4⟩, ⟨h5, g5⟩, ⟨h6, g6⟩, ⟨h7, g7⟩, h8, g8⟩ := h
  unfold sum9 k0_pay34 k0_pay5
  simp only [shapeCast_self]
  rw [← h0, ← h1, ← h2, ← h3, ← h4, ← h5, ← h6, ← h7, ← h8, ← g0, ← g1, ← g2, ← g3, ← g4, ← g5, ← g6, ← g7, ← g8]
  rfl

/-- Every pixel address is inside the image. -/
theorem faS_lt (px py : BitVec 32) : (faS px py).toNat < 262144 := by
  have hmax : ∀ a : BitVec 32, (IntOp.maxsi 0#32 a).toNat < 2147483648 := by
    intro a
    have h0 : (0#32 : BitVec 32).toInt = 0 := rfl
    unfold IntOp.maxsi
    rw [BitVec.slt_eq_decide, h0]
    split
    · exact (by decide : (0#32 : BitVec 32).toNat < 2147483648)
    · rename_i h
      have ha := a.isLt
      have hi := BitVec.toInt_eq_toNat_cond a
      simp only [decide_eq_true_eq] at h
      split at hi <;> omega
  have hmin : ∀ a : BitVec 32, a.toNat < 2147483648 → (IntOp.minsi 511#32 a).toNat ≤ 511 := by
    intro a ha
    have h0 : (511#32 : BitVec 32).toInt = 511 := rfl
    unfold IntOp.minsi
    rw [BitVec.slt_eq_decide, h0]
    split
    · exact (by decide : (511#32 : BitVec 32).toNat ≤ 511)
    · rename_i h
      have hi := BitVec.toInt_eq_toNat_cond a
      simp only [decide_eq_true_eq] at h
      split at hi <;> omega
  have key : ∀ a : BitVec 32, (IntOp.minsi 511#32 (IntOp.maxsi 0#32 a)).toNat ≤ 511 := fun a => hmin _ (hmax a)
  have e : faS px py = IntOp.minsi 511#32 (IntOp.maxsi 0#32 py) * 512#32 + IntOp.minsi 511#32 (IntOp.maxsi 0#32 px) := by
    unfold faS k0_pay32; simp only [shapeCast_self, addi, muli, minsi, maxsi, broadcast]; rfl
  rw [e, BitVec.toNat_add, BitVec.toNat_mul]
  have h1 := key px
  have h2 := key py
  have h3 : (512#32 : BitVec 32).toNat = 512 := rfl
  rw [h3]
  omega

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The tile's thread. -/
abbrev thr (d : Dev nD) (L : grid0.Coords) : Thread nD τ := V d (cV L) (jV L)

/-- The weakest precondition of a tile's program. -/
abbrev twp (d : Dev nD) (L : grid0.Coords) {α : Type} (p : TP F L α) (Q : α → sProp 𝕄) : sProp 𝕄 :=
  wp frame (wpE (defs₀ (F := F)) 𝒱₀ (thr d L) none) Set.univ p Q

end Cert.Proof.I

end
-- ==== Proof.ITrip.lean ====
/-
  The two kinds of loop of a tile: what they leave in the buffers.
-/
module

public import proofs.«01_k».proof.Proof.ILoops

@[expose] public section

noncomputable section

namespace Cert.Proof.I

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The accumulation loop -/

section Loops

variable (d : Dev nD) (L : grid0.Coords)

/-- A counted loop with an invariant that the precondition establishes and that gives the postcondition. -/
theorem wp_counted (l : Scf.Loop 32) (hok : l.OK) (body : Fin l.trips → Unit → TP F L Unit) (I : ℕ → sProp 𝕄) (A B : sProp 𝕄)
    (h0 : A ⊢ I 0) (hbody : ∀ k : Fin l.trips, I k.val ⊢ twp d L (body k ()) fun _ => I (k.val + 1)) (hn : I l.trips ⊢ B) :
    A ⊢ twp d L (Scf.Loop.for l hok () body) fun _ => B := by
  unfold twp at hbody ⊢
  iintro H
  iapply (Scf.wp_for frame (wpE (defs₀ (F := F)) 𝒱₀ (thr d L) none) Set.univ l.lb l.ub l.st hok () body (fun k _ => I k) (fun k _ => hbody k))
  isplitl
  · iapply h0; iexact H
  · iintro %a H
    iapply hn; iexact H

/-- What an accumulation loop holds after `k` trips: the samples, the weights, and the first `16 k` outputs. -/
def accInv (buf : Memref sig .scVector .vmem S2592 .f32) (q : PosShare TreeShare) (fb : Buf (Elt F) (buf.view.loc (thr d L)))
    (fw : Buf (Elt F) (wV.view.loc (thr d L))) (a b : S2592.Idx → F .f32) (k : ℕ) : sProp 𝕄 :=
  iprop((buf.view.loc (thr d L) ↦{fullShare} fb) ∗ (wV.view.loc (thr d L) ↦{q} fw)
    ∗ ∃ f, ⌜∀ j : S288.Idx, (j 0).val < 16 * k → ouV.view.read (Elt F) f j = acc a b j⌝ ∗ (ouV.view.loc (thr d L) ↦{fullShare} f))

/-- One trip's store extends the outputs known by sixteen. -/
theorem acc_step (buf : Memref sig .scVector .vmem S2592 .f32) (fb : Buf (Elt F) (buf.view.loc (thr d L)))
    (fw : Buf (Elt F) (wV.view.loc (thr d L))) (f : Buf (Elt F) (ouV.view.loc (thr d L))) (a b : S2592.Idx → F .f32)
    (ha : buf.view.read (Elt F) fb = a) (hb : wV.view.read (Elt F) fw = b) (t : Fin k0_t2_loop.trips)
    (hf : ∀ j : S288.Idx, (j 0).val < 16 * t.val → ouV.view.read (Elt F) f j = acc a b j) :
    ∀ j : S288.Idx, (j 0).val < 16 * (t.val + 1) → ouV.view.read (Elt F) (ouV.view.writes (Elt F) f
      [⟨Rect.unit (s := S288) (k0_off5 t) S16.size (k0_off5_inb t), k0_pay34 (k0_pay5
        (buf.view.readAt (Elt F) (Rect.unit (s := S2592) (k0_off3 t) S16.size (k0_off3_inb t)).toLoadRect fb)
        (wV.view.readAt (Elt F) (Rect.unit (s := S2592) (k0_off3 t) S16.size (k0_off3_inb t)).toLoadRect fw)
        (buf.view.readAt (Elt F) (Rect.unit (s := S2592) (k0_off4 t 288#32) S16.size (k0_off4_inb t 0)).toLoadRect fb)
        (wV.view.readAt (Elt F) (Rect.unit (s := S2592) (k0_off4 t 288#32) S16.size (k0_off4_inb t 0)).toLoadRect fw)
        (buf.view.readAt (Elt F) (Rect.unit (s := S2592) (k0_off4 t 576#32) S16.size (k0_off4_inb t 1)).toLoadRect fb)
        (wV.view.readAt (Elt F) (Rect.unit (s := S2592) (k0_off4 t 576#32) S16.size (k0_off4_inb t 1)).toLoadRect fw)
        (buf.view.readAt (Elt F) (Rect.unit (s := S2592) (k0_off4 t 864#32) S16.size (k0_off4_inb t 2)).toLoadRect fb)
        (wV.view.readAt (Elt F) (Rect.unit (s := S2592) (k0_off4 t 864#32) S16.size (k0_off4_inb t 2)).toLoadRect fw)
        (buf.view.readAt (Elt F) (Rect.unit (s := S2592) (k0_off4 t 1152#32) S16.size (k0_off4_inb t 3)).toLoadRect fb)
        (wV.view.readAt (Elt F) (Rect.unit (s := S2592) (k0_off4 t 1152#32) S16.size (k0_off4_inb t 3)).toLoadRect fw)
        (buf.view.readAt (Elt F) (Rect.unit (s := S2592) (k0_off4 t 1440#32) S16.size (k0_off4_inb t 4)).toLoadRect fb)
        (wV.view.readAt (Elt F) (Rect.unit (s := S2592) (k0_off4 t 1440#32) S16.size (k0_off4_inb t 4)).toLoadRect fw))
        (buf.view.readAt (Elt F) (Rect.unit (s := S2592) (k0_off4 t 1728#32) S16.size (k0_off4_inb t 5)).toLoadRect fb)
        (wV.view.readAt (Elt F) (Rect.unit (s := S2592) (k0_off4 t 1728#32) S16.size (k0_off4_inb t 5)).toLoadRect fw)
        (buf.view.readAt (Elt F) (Rect.unit (s := S2592) (k0_off4 t 2016#32) S16.size (k0_off4_inb t 6)).toLoadRect fb)
        (wV.view.readAt (Elt F) (Rect.unit (s := S2592) (k0_off4 t 2016#32) S16.size (k0_off4_inb t 6)).toLoadRect fw)
        (buf.view.readAt (Elt F) (Rect.unit (s := S2592) (k0_off4 t 2304#32) S16.size (k0_off4_inb t 7)).toLoadRect fb)
        (wV.view.readAt (Elt F) (Rect.unit (s := S2592) (k0_off4 t 2304#32) S16.size (k0_off4_inb t 7)).toLoadRect fw)⟩]) j = acc a b j := by
  intro j hj
  refine (st16 ouV f _ (k0_off5_inb t) (16 * t.val) (off5_eq t) _ j).trans ?_
  split
  · rename_i h
    have hz : (lin 16 ((j 0).val - 16 * t.val) 0).val = (j 0).val - 16 * t.val := lin_val _ _ (by omega)
    have e3 : ∀ {w : S2592.Idx → F .f32} (m : Memref sig .scVector .vmem S2592 .f32) (g : m.view.ty.Contents (Elt F)), m.view.read (Elt F) g = w →
        m.view.readAt (Elt F) (Rect.unit (s := S2592) (k0_off3 t) S16.size (k0_off3_inb t)).toLoadRect g (lin 16 ((j 0).val - 16 * t.val))
          = w (lin 2592 (288 * (0 : Fin 9).val + (j 0).val)) := by
      intro w m g hg
      rw [ld16 m.view g _ _ _ (off3_eq t), hg, hz]
      exact congrArg (fun n => w (lin 2592 n)) (by show _ = 288 * 0 + _; omega)
    have e4 : ∀ {w : S2592.Idx → F .f32} (m : Memref sig .scVector .vmem S2592 .f32) (g : m.view.ty.Contents (Elt F)), m.view.read (Elt F) g = w →
        ∀ r : Fin 8, m.view.readAt (Elt F) (Rect.unit (s := S2592) (k0_off4 t (BitVec.ofNat 32 (288 + 288 * r.val))) S16.size (k0_off4_inb t r)).toLoadRect g
          (lin 16 ((j 0).val - 16 * t.val)) = w (lin 2592 (288 * (r.succ : Fin 9).val + (j 0).val)) := by
      intro w m g hg r
      rw [ld16 m.view g _ _ _ (off4_eq t r), hg, hz]
      exact congrArg (fun n => w (lin 2592 n)) (by show _ = 288 * (r.val + 1) + _; omega)
    exact pay345_apply _ _ _ _ _ _ _ _ _ _ _ _ _ _ _ _ _ _ _ _ _
      ⟨⟨⟨e3 buf fb ha, e3 wV fw hb⟩, ⟨e4 buf fb ha 0, e4 wV fw hb 0⟩, ⟨e4 buf fb ha 1, e4 wV fw hb 1⟩, ⟨e4 buf fb ha 2, e4 wV fw hb 2⟩,
          e4 buf fb ha 3, e4 wV fw hb 3⟩, ⟨e4 buf fb ha 4, e4 wV fw hb 4⟩, ⟨e4 buf fb ha 5, e4 wV fw hb 5⟩, ⟨e4 buf fb ha 6, e4 wV fw hb 6⟩,
          e4 buf fb ha 7, e4 wV fw hb 7⟩
  · exact hf j (by omega)

set_option maxHeartbeats 2000000 in
/-- One trip of an accumulation loop. -/
theorem wp_accBody (buf : Memref sig .scVector .vmem S2592 .f32) (q : PosShare TreeShare) (fb : Buf (Elt F) (buf.view.loc (thr d L)))
    (fw : Buf (Elt F) (wV.view.loc (thr d L))) (a b : S2592.Idx → F .f32)
    (ha : buf.view.read (Elt F) fb = a) (hb : wV.view.read (Elt F) fw = b) (t : Fin k0_t2_loop.trips) :
    accInv (F := F) d L buf q fb fw a b t.val ⊢ twp d L (accBody L buf t ()) fun _ => accInv (F := F) d L buf q fb fw a b (t.val + 1) := by
  have htr : t.val < 18 := lt_of_lt_of_eq t.isLt trips2
  unfold twp accInv accBody
  iintro ⟨Hb, Hw, %f, %hf, Ho⟩
  have hf' := acc_step d L buf fb fw f a b ha hb t hf
  sl_exec
  sl_step
  isplitl [Hb]; · iexact Hb
  isplitl [Hw]; · iexact Hw
  iexists _
  isplitr
  swap; · iexact Ho
  ipureintro; exact hf'

/-- An accumulation loop leaves the plane's outputs in the output buffer. -/
theorem wp_acc (buf : Memref sig .scVector .vmem S2592 .f32) (q : PosShare TreeShare) (fb : Buf (Elt F) (buf.view.loc (thr d L)))
    (fw : Buf (Elt F) (wV.view.loc (thr d L))) (a b : S2592.Idx → F .f32)
    (ha : buf.view.read (Elt F) fb = a) (hb : wV.view.read (Elt F) fw = b) :
    iprop((buf.view.loc (thr d L) ↦{fullShare} fb) ∗ (wV.view.loc (thr d L) ↦{q} fw) ∗ ∃ f, (ouV.view.loc (thr d L) ↦{fullShare} f))
      ⊢ twp d L (Scf.Loop.for k0_t2_loop k0_t2_ok () (accBody L buf)) fun _ =>
        iprop((buf.view.loc (thr d L) ↦{fullShare} fb) ∗ (wV.view.loc (thr d L) ↦{q} fw)
          ∗ ∃ f, ⌜ouV.view.read (Elt F) f = acc a b⌝ ∗ (ouV.view.loc (thr d L) ↦{fullShare} f)) := by
  refine wp_counted d L _ _ _ (fun k => accInv (F := F) d L buf q fb fw a b k) _ _ ?_ (fun k => wp_accBody d L buf q fb fw a b ha hb k) ?_
  · unfold accInv
    iintro ⟨Hb, Hw, %f, Ho⟩
    isplitl [Hb]; · iexact Hb
    isplitl [Hw]; · iexact Hw
    iexists f
    isplitr
    swap; · iexact Ho
    ipureintro; intro j hj; exact absurd hj (Nat.not_lt_zero _)
  · unfold accInv
    iintro ⟨Hb, Hw, %f, %hf, Ho⟩
    isplitl [Hb]; · iexact Hb
    isplitl [Hw]; · iexact Hw
    iexists f
    isplitr
    swap; · iexact Ho
    ipureintro; funext j
    refine hf j (lt_of_lt_of_eq (j 0).isLt ?_)
    show 288 = 16 * k0_t2_loop.trips
    rw [trips2]

/-! ## The address loop -/

/-- The pixel coordinates, addresses and weights of the tile's samples, from the three parameter rows and the gathered
    grid coordinates. -/
def pxV (U G : Vec F S16 .f32) (gx : S2592.Idx → F .f32) : S2592.Idx → BitVec 32 := fun x => pxS (U (lin 16 (x 0).val)) (G (lin 16 (x 0).val)) (gx x)
def pyV (U G : Vec F S16 .f32) (gy : S2592.Idx → F .f32) : S2592.Idx → BitVec 32 := fun x => pyS (U (lin 16 (x 0).val)) (G (lin 16 (x 0).val)) (gy x)
def faF (U W G : Vec F S16 .f32) (gx gy : S2592.Idx → F .f32) : S2592.Idx → BitVec 32 := fun x => faS (pxV U G gx x) (pyV W G gy x)
def wF (U W G : Vec F S16 .f32) (gx gy : S2592.Idx → F .f32) : S2592.Idx → F .f32 := fun x => wS (pxV U G gx x) (pyV W G gy x)

def addrInv (v7 v10 v13 : Vec F S1x16 .f32) (fx : Buf (Elt F) (gxV.view.loc (thr d L))) (fy : Buf (Elt F) (gyV.view.loc (thr d L)))
    (gx gy : S2592.Idx → F .f32) (k : ℕ) : sProp 𝕄 :=
  iprop((gxV.view.loc (thr d L) ↦{fullShare} fx) ∗ (gyV.view.loc (thr d L) ↦{fullShare} fy)
    ∗ (∃ f, ⌜∀ x : S2592.Idx, (x 0).val < 16 * k → faV.view.read (Elt F) f x = faF (k0_pay29 v7) (k0_pay30 v10) (k0_pay31 v13) gx gy x⌝ ∗ (faV.view.loc (thr d L) ↦{fullShare} f))
    ∗ ∃ f, ⌜∀ x : S2592.Idx, (x 0).val < 16 * k → wV.view.read (Elt F) f x = wF (k0_pay29 v7) (k0_pay30 v10) (k0_pay31 v13) gx gy x⌝ ∗ (wV.view.loc (thr d L) ↦{fullShare} f))

/-- Sixteen lanes computed from loaded lanes extend what is known of a one-axis buffer by sixteen. -/
theorem addr_step {e : EltTy} (m : Memref sig .scVector .vmem S2592 e) (f : m.view.ty.Contents (Elt F)) (t : Fin k0_t1_loop.trips)
    (s : S2592.Idx → Elt F e) (hf : ∀ x : S2592.Idx, (x 0).val < 16 * t.val → m.view.read (Elt F) f x = s x)
    (w : S16.Idx → Elt F e) (hw : ∀ x : S16.Idx, w x = s (lin 2592 (16 * t.val + (x 0).val))) :
    ∀ x : S2592.Idx, (x 0).val < 16 * (t.val + 1) → m.view.read (Elt F) (m.view.writes (Elt F) f
      [⟨Rect.unit (s := S2592) (k0_off2 t) S16.size (k0_off2_inb t), w⟩]) x = s x := by
  intro x hx
  refine (st16 m f _ (k0_off2_inb t) (16 * t.val) (off2_eq t) w x).trans ?_
  split
  · rename_i h
    rw [hw, lin_val 16 _ (by omega), Nat.add_sub_cancel' h.1]
    exact congrArg s (lin_self 2592 x)
  · exact hf x (by omega)

theorem addr_lane (t : Fin k0_t1_loop.trips) (x : S16.Idx) : lin 16 (lin 2592 (16 * t.val + (x 0).val) 0).val = x := by
  have htr : t.val < 162 := lt_of_lt_of_eq t.isLt trips1
  have hx : (x 0).val < 16 := (x 0).isLt
  rw [lin_val _ _ (by omega)]
  refine idx1_ext ?_
  show (16 * t.val + (x 0).val) % 16 = _
  omega

theorem addr_ld (m : Memref sig .scVector .vmem S2592 .f32) (g : m.view.ty.Contents (Elt F)) (t : Fin k0_t1_loop.trips) (w : S2592.Idx → F .f32)
    (hg : m.view.read (Elt F) g = w) (x : S16.Idx) :
    m.view.readAt (Elt F) (Rect.unit (s := S2592) (k0_off2 t) S16.size (k0_off2_inb t)).toLoadRect g x = w (lin 2592 (16 * t.val + (x 0).val)) := by
  rw [ld16 m.view g _ _ _ (off2_eq t), hg]

set_option maxHeartbeats 2000000 in
/-- One trip of the address loop. -/
theorem wp_addrBody (v7 v10 v13 : Vec F S1x16 .f32) (fx : Buf (Elt F) (gxV.view.loc (thr d L))) (fy : Buf (Elt F) (gyV.view.loc (thr d L)))
    (gx gy : S2592.Idx → F .f32) (hx : gxV.view.read (Elt F) fx = gx) (hy : gyV.view.read (Elt F) fy = gy) (t : Fin k0_t1_loop.trips) :
    addrInv (F := F) d L v7 v10 v13 fx fy gx gy t.val ⊢ twp d L (addrBody L v7 v10 v13 t ()) fun _ => addrInv (F := F) d L v7 v10 v13 fx fy gx gy (t.val + 1) := by
  unfold twp addrInv addrBody
  iintro ⟨Hx, Hy, ⟨%f, %hf, Hf⟩, ⟨%w, %hw, Hw⟩⟩
  have hf' := addr_step faV f t _ hf
    (k0_pay32 (k0_pay3 (F := F) (k0_pay29 v7) (k0_pay31 v13) (gxV.view.readAt (Elt F) (Rect.unit (s := S2592) (k0_off2 t) S16.size (k0_off2_inb t)).toLoadRect fx))
      (k0_pay4 (F := F) (k0_pay30 v10) (k0_pay31 v13) (gyV.view.readAt (Elt F) (Rect.unit (s := S2592) (k0_off2 t) S16.size (k0_off2_inb t)).toLoadRect fy)))
    (fun x => by rw [pay32_apply, pay3_apply, pay4_apply, addr_ld gxV fx t gx hx, addr_ld gyV fy t gy hy]; unfold faF pxV pyV; rw [addr_lane])
  have hw' := addr_step wV w t _ hw
    (k0_pay33 (F := F) (k0_pay3 (F := F) (k0_pay29 v7) (k0_pay31 v13) (gxV.view.readAt (Elt F) (Rect.unit (s := S2592) (k0_off2 t) S16.size (k0_off2_inb t)).toLoadRect fx))
      (k0_pay4 (F := F) (k0_pay30 v10) (k0_pay31 v13) (gyV.view.readAt (Elt F) (Rect.unit (s := S2592) (k0_off2 t) S16.size (k0_off2_inb t)).toLoadRect fy)) 0#32)
    (fun x => by rw [pay33_apply, pay3_apply, pay4_apply, addr_ld gxV fx t gx hx, addr_ld gyV fy t gy hy]; unfold wF pxV pyV; rw [addr_lane])
  sl_exec
  sl_step
  isplitl [Hx]; · iexact Hx
  isplitl [Hy]; · iexact Hy
  isplitl [Hf]
  · iexists _
    isplitr
    swap; · iexact Hf
    ipureintro; exact hf'
  · iexists _
    isplitr
    swap; · iexact Hw
    ipureintro; exact hw'

/-- The address loop leaves the addresses and the weights in their buffers. -/
theorem wp_addr (v7 v10 v13 : Vec F S1x16 .f32) (fx : Buf (Elt F) (gxV.view.loc (thr d L))) (fy : Buf (Elt F) (gyV.view.loc (thr d L)))
    (gx gy : S2592.Idx → F .f32) (hx : gxV.view.read (Elt F) fx = gx) (hy : gyV.view.read (Elt F) fy = gy) :
    iprop((gxV.view.loc (thr d L) ↦{fullShare} fx) ∗ (gyV.view.loc (thr d L) ↦{fullShare} fy)
        ∗ (∃ f, faV.view.loc (thr d L) ↦{fullShare} f) ∗ (∃ f, wV.view.loc (thr d L) ↦{fullShare} f))
      ⊢ twp d L (Scf.Loop.for k0_t1_loop k0_t1_ok () (addrBody L v7 v10 v13)) fun _ =>
        iprop((gxV.view.loc (thr d L) ↦{fullShare} fx) ∗ (gyV.view.loc (thr d L) ↦{fullShare} fy)
          ∗ (∃ f, ⌜faV.view.read (Elt F) f = faF (k0_pay29 v7) (k0_pay30 v10) (k0_pay31 v13) gx gy⌝ ∗ (faV.view.loc (thr d L) ↦{fullShare} f))
          ∗ ∃ f, ⌜wV.view.read (Elt F) f = wF (k0_pay29 v7) (k0_pay30 v10) (k0_pay31 v13) gx gy⌝ ∗ (wV.view.loc (thr d L) ↦{fullShare} f)) := by
  have hn : ∀ x : S2592.Idx, (x 0).val < 16 * k0_t1_loop.trips := fun x => lt_of_lt_of_eq (x 0).isLt (by
    show 2592 = 16 * k0_t1_loop.trips
    rw [trips1])
  refine wp_counted d L _ _ _ (fun k => addrInv (F := F) d L v7 v10 v13 fx fy gx gy k) _ _ ?_ (fun k => wp_addrBody d L v7 v10 v13 fx fy gx gy hx hy k) ?_
  · unfold addrInv
    iintro ⟨Hx, Hy, ⟨%f, Hf⟩, ⟨%w, Hw⟩⟩
    isplitl [Hx]; · iexact Hx
    isplitl [Hy]; · iexact Hy
    isplitl [Hf]
    · iexists f
      isplitr
      swap; · iexact Hf
      ipureintro; intro x hx; exact absurd hx (Nat.not_lt_zero _)
    · iexists w
      isplitr
      swap; · iexact Hw
      ipureintro; intro x hx; exact absurd hx (Nat.not_lt_zero _)
  · unfold addrInv
    iintro ⟨Hx, Hy, ⟨%f, %hf, Hf⟩, ⟨%w, %hw, Hw⟩⟩
    isplitl [Hx]; · iexact Hx
    isplitl [Hy]; · iexact Hy
    isplitl [Hf]
    · iexists f
      isplitr
      swap; · iexact Hf
      ipureintro; funext x; exact hf x (hn x)
    · iexists w
      isplitr
      swap; · iexact Hw
      ipureintro; funext x; exact hw x (hn x)

end Loops

end Cert.Proof.I

end
-- ==== Proof.IGather.lean ====
/-
  A gather, begun and awaited; a copy, begun and awaited.
-/
module

public import proofs.«01_k».proof.Proof.ITrip

@[expose] public section

noncomputable section

namespace Cert.Proof.I

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section Steps

variable (d : Dev nD) (L : grid0.Coords)

/-- What a tile owes when it waits, having waited at no cell but its own copies' since `W`. -/
def OW (O : CellTallies nD τ sig (HIx 1)) (W : Waits sig (HIx 1)) : sProp 𝕄 :=
  iprop(∃ W', ⌜∀ p ∈ W', p ∈ W ∨ p.2 = none⌝ ∗ owes (thr d L) O W')

section Gather

variable {s₀ : Shape} (src : Memref sig .scVector .hbm s₀ .f32) (hg : s₀.Gathers 0 S2592)
  (offs : Memref sig .scVector .vmem S2592 .i32) (hoffs : offs.IsWhole)
  (buf : Memref sig .scVector .vmem S2592 .f32) (hbuf : buf.IsWhole) (sem : DmaSem sig)
  (q qo : PosShare TreeShare) (fs : Buf (Elt F) (src.view.loc (thr d L))) (fo : Buf (Elt F) (offs.view.loc (thr d L)))
  (hin : ∀ x, (offs.view.read (Elt F) fo x).toNat < s₀.size hg.axis)

/-- A gather of `src` at the rows listed in `offs`, under way into `buf`: what its wait will hand back, and the part of
    the source it does not read. -/
def InFlight : sProp 𝕄 :=
  iprop((∃ fd, Transfers.Flight countersEmb (thr d L) (.dma sem) (none : HIx 1) buf.view.dmaCredit
      iprop((buf.view.loc (thr d L) ↦[buf.view.set]{fullShare}
          (buf.view.write (Elt F) fd (SparseCore.gatherPayload hg (src.view.read (Elt F) fs) (SparseCore.rows (offs.view.read (Elt F) fo) rfl hin)) Finset.univ))
        ∗ (src.view.loc (thr d L) ↦[src.view.set]{q} fs) ∗ (offs.view.loc (thr d L) ↦[offs.view.set]{qo} fo)))
    ∗ (src.view.loc (thr d L) ↦[Finset.univ \ src.view.set]{q} fs))

include hoffs hbuf in
set_option maxHeartbeats 1000000 in
/-- A gather begins: from the source, the list, the buffer and the semaphore at zero. -/
theorem wp_gissue (hsrc : src.view.WordExact) (hr : s₀.StreamRows 0) :
    iprop((src.view.loc (thr d L) ↦{q} fs) ∗ (∃ fd, buf.view.loc (thr d L) ↦{fullShare} fd) ∗ (offs.view.loc (thr d L) ↦{qo} fo)
        ∗ semVal (thr d L, SemLoc.dma sem) 0)
      ⊢ twp d L (SparseCore.enqueueIndirectGather rfl src buf hg offs rfl sem hsrc rfl (Or.inl rfl) hr : TP F L PUnit)
          fun _ => InFlight (F := F) d L src hg offs buf sem q qo fs fo hin := by
  have hbs : buf.view.set = Finset.univ := hbuf.set_eq_univ
  have hos : offs.view.set = Finset.univ := hoffs.set_eq_univ
  unfold twp InFlight
  iintro ⟨Hs, ⟨%fd, Hd⟩, Ho, Hv⟩
  ihave Hss := (pointsTo_split_subset (q := q) (f := fs) (S := Finset.univ) (Finset.subset_univ src.view.set)).1 $$ Hs
  icases Hss with ⟨Hs, Hrest⟩
  rw [← Prog.bind_pure (SparseCore.enqueueIndirectGather rfl src buf hg offs rfl sem hsrc rfl (Or.inl rfl) hr : TP F L PUnit)]
  iapply (SparseCore.wp_indirectGatherLocal countersEmb 𝒱₀ (thr d L) none (hg := hg) (none : HIx 1) buf.view.dmaCredit
    (SparseCore.sum_rowCredit_eq_dmaCredit buf _ (fun s' => rfl)) (by decide) hin) $$ [Hs Hd Ho Hv]
  · isplitl [Hs]; · iexact Hs
    isplitl [Hd]; · rw [hbs]; iexact Hd
    isplitl [Ho]; · rw [hos]; iexact Ho
    iexact Hv
  iintro Hfl
  sl_step
  isplitl [Hfl]
  · iexists fd; iexact Hfl
  iexact Hrest

include hoffs hbuf in
set_option maxHeartbeats 1000000 in
/-- A gather ends: the source, the list and the semaphore are back, and the buffer holds the rows asked for. -/
theorem wp_gwait (O : CellTallies nD τ sig (HIx 1)) (W : Waits sig (HIx 1)) (hsrc : src.view.WordExact) (hdst : buf.view.WordExact) :
    iprop(Transfers.MayWaits (thr d L) (none : HIx 1) O ∗ InFlight (F := F) d L src hg offs buf sem q qo fs fo hin ∗ OW (F := F) d L O W)
      ⊢ twp d L (SparseCore.waitIndirectGather sem src buf hsrc hdst : TP F L PUnit) fun _ =>
        iprop((src.view.loc (thr d L) ↦{q} fs)
          ∗ (∃ fb, ⌜buf.view.read (Elt F) fb = SparseCore.gatherPayload hg (src.view.read (Elt F) fs) (SparseCore.rows (offs.view.read (Elt F) fo) rfl hin)⌝
              ∗ (buf.view.loc (thr d L) ↦{fullShare} fb))
          ∗ (offs.view.loc (thr d L) ↦{qo} fo) ∗ semVal (thr d L, SemLoc.dma sem) 0 ∗ OW (F := F) d L O W) := by
  have hbs : buf.view.set = Finset.univ := hbuf.set_eq_univ
  have hos : offs.view.set = Finset.univ := hoffs.set_eq_univ
  unfold twp InFlight OW SparseCore.waitIndirectGather
  iintro ⟨#Hmw, ⟨⟨%fd, Hfl⟩, Hrest⟩, %W', %hW', HO⟩
  iapply (Transfers.wp_waitLocalO countersEmb 𝒱₀ (thr d L) none (none : HIx 1) (rfl : buf.view.dmaCredit = _)) $$ [Hfl HO]
  · isplitl [Hfl]; · iexact Hfl
    isplitl [HO]; · iexact HO
    iapply (Transfers.MayWaits.elim (SemLoc.dma sem)) $$ Hmw
  iintro ⟨⟨Hb, Hs, Ho⟩, Hv, HO⟩
  sl_step
  isplitl [Hs Hrest]
  · iapply (pointsTo_split_subset (q := q) (f := fs) (S := Finset.univ) (Finset.subset_univ src.view.set)).2
    isplitl [Hs] <;> iassumption
  isplitl [Hb]
  · iexists _
    isplitr
    swap; · rw [hbs]; iexact Hb
    ipureintro; exact View.read_write_univ _ _
  isplitl [Ho]; · rw [hos]; iexact Ho
  isplitl [Hv]; · iexact Hv
  iexists _
  isplitr
  swap; · iexact HO
  ipureintro; intro p hp
  rcases Finset.mem_insert.mp hp with hp | hp
  · exact .inr (hp ▸ rfl)
  · exact hW' p hp

end Gather

/-! ## Copies -/

section Copy

variable {sp sp' : Space} {s : Shape} {e : EltTy} (src : Memref sig .scVector sp s e) (dst : Memref sig .scVector sp' s e) (sem : DmaSem sig)
  (q : PosShare TreeShare) (fs : Buf (Elt F) (src.view.loc (thr d L))) (fd : Buf (Elt F) (dst.view.loc (thr d L)))

set_option maxHeartbeats 1000000 in
/-- A copy and its wait: the destination holds what the source holds. -/
theorem wp_copy (hs : 0 < s.numel) (O : CellTallies nD τ sig (HIx 1)) (W : Waits sig (HIx 1)) (hsrc : src.view.WordExact) (hdst : dst.view.WordExact)
    (hsem : DmaTarget.Typed (nD := nD) (τ := τ) (p := (thr d L).2) sp (.dma sem) (.here dst)) :
    iprop(Transfers.MayWaits (thr d L) (none : HIx 1) O ∗ (src.view.loc (thr d L) ↦[src.view.set]{q} fs)
        ∗ (dst.view.loc (thr d L) ↦[dst.view.set]{fullShare} fd) ∗ semVal (thr d L, SemLoc.dma sem) 0 ∗ OW (F := F) d L O W)
      ⊢ twp d L ((Prog.lift (.enqueueDma src (.here dst) (.dma sem) hsrc hdst hsem) : TP F L PUnit) >>= fun _ =>
          (Prog.lift (.waitDma2 sem src dst hsrc hdst) : TP F L PUnit)) fun _ =>
        iprop((src.view.loc (thr d L) ↦[src.view.set]{q} fs)
          ∗ (dst.view.loc (thr d L) ↦[dst.view.set]{fullShare} (dst.view.write (Elt F) fd (src.view.read (Elt F) fs) Finset.univ))
          ∗ semVal (thr d L, SemLoc.dma sem) 0 ∗ OW (F := F) d L O W) := by
  unfold twp OW
  simp only [Prog.lift, Prog.bind_op, Prog.bind_ret]
  iintro ⟨#Hmw, Hs, Hd, Hv, %W', %hW', HO⟩
  iapply (Transfers.wp_dmaLocal countersEmb 𝒱₀ (thr d L) none (none : HIx 1) (dst.view.amount (.dma sem)) rfl (View.amount_pos _ _ hs) (Finset.Subset.refl _)) $$ [Hs Hd Hv]
  · isplitl [Hs]; · iexact Hs
    isplitl [Hd]; · iexact Hd
    iexact Hv
  iintro Hfl
  iapply (Transfers.wp_waitLocalO countersEmb 𝒱₀ (thr d L) none (none : HIx 1) (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hs⟩, Hv, HO⟩
  sl_step
  isplitl [Hs]; · iexact Hs
  isplitl [Hd]; · iexact Hd
  isplitl [Hv]; · iexact Hv
  iexists _
  isplitr
  swap; · iexact HO
  ipureintro; intro p hp
  rcases Finset.mem_insert.mp hp with hp | hp
  · exact .inr (hp ▸ rfl)
  · exact hW' p hp

end Copy

end Steps

/-! ## The gathered values, by index -/

/-- A gather from a one-axis array reads it at the listed numbers. -/
theorem gather_apply {n : ℕ} [NeZero n] (hg : (⟨1, ![n]⟩ : Shape).Gathers 0 S2592) (g : (⟨1, ![n]⟩ : Shape).Idx → F .f32) (idx : S2592.Idx → BitVec 32)
    (hin : ∀ x, (idx x).toNat < (⟨1, ![n]⟩ : Shape).size hg.axis) (x : S2592.Idx) :
    SparseCore.gatherPayload (F := F) (e := .f32) hg g (SparseCore.rows (F := F) idx rfl hin) x = g (lin n (idx x).toNat) := by
  unfold SparseCore.gatherPayload
  refine congrArg g (idx1_ext ?_)
  have hlt : (idx x).toNat < n := hin x
  rw [lin_val _ _ hlt]
  have hr : ∀ k : Fin (S2592.size hg.axis'), k.val = (x 0).val → (SparseCore.rows (F := F) idx rfl hin k).val = (idx x).toNat := by
    intro k hk
    unfold SparseCore.rows
    refine congrArg (fun y => (idx y).toNat) ?_
    rw [Equiv.symm_apply_eq]
    refine Fin.ext ?_
    rw [Shape.rowMajor_val_one]
    exact hk
  exact (congrArg Fin.val (hg.idx_axis _ x)).trans (hr _ rfl)

end Cert.Proof.I

end
-- ==== Proof.IRound.lean ====
/-
  One plane of the image: its gather, its accumulation and the copy of its outputs.
-/
module

public import proofs.«01_k».proof.Proof.IGather

@[expose] public section

noncomputable section

namespace Cert.Proof.I

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable {F : FTy → Type} [FloatOps F] [Named F]

local notation "𝕄" => MT nD τ sig (HIx 1) (Elt F) ℕ UU ℕ

/-! ## The values, from the five arrays a tile reads -/

/-- The arrays in main memory that the tiles read: the planes of the image one after the other, the two coordinate
    arrays, the three parameter rows and the rows of neighbour indices. -/
structure In (F : FTy → Type) where
  img : S6291456.Idx → F .f32
  gx : S82944.Idx → F .f32
  gy : S82944.Idx → F .f32
  par : S3x16.Idx → F .f32
  knn : S32x2592.Idx → BitVec 32

/-- Row `wid` of the neighbour indices: sample `x` of the tile at `L`. -/
def In.kn (A : In F) (L : grid0.Coords) : S2592.Idx → BitVec 32 := (knnRow L).view.read (Elt F) A.knn
/-- The coordinates of the tile's samples. -/
def In.gxs (A : In F) (L : grid0.Coords) : S2592.Idx → F .f32 := fun x => A.gx (lin 82944 (A.kn L x).toNat)
def In.gys (A : In F) (L : grid0.Coords) : S2592.Idx → F .f32 := fun x => A.gy (lin 82944 (A.kn L x).toNat)
/-- The three parameter rows, as the tile loads them. -/
def In.r0 (A : In F) : Vec F S1x16 .f32 := paV.view.readAt (Elt F) (Rect.unit (s := S3x16) ![0, 0] S1x16.size inb_S3x16_S1x16_0_0).toLoadRect A.par
def In.r1 (A : In F) : Vec F S1x16 .f32 := paV.view.readAt (Elt F) (Rect.unit (s := S3x16) ![1, 0] S1x16.size inb_S3x16_S1x16_1_0).toLoadRect A.par
def In.r2 (A : In F) : Vec F S1x16 .f32 := paV.view.readAt (Elt F) (Rect.unit (s := S3x16) ![2, 0] S1x16.size inb_S3x16_S1x16_2_0).toLoadRect A.par
/-- The addresses and weights of the tile's samples. -/
def In.fa (A : In F) (L : grid0.Coords) : S2592.Idx → BitVec 32 := faF (k0_pay29 A.r0) (k0_pay30 A.r1) (k0_pay31 A.r2) (A.gxs L) (A.gys L)
def In.w (A : In F) (L : grid0.Coords) : S2592.Idx → F .f32 := wF (k0_pay29 A.r0) (k0_pay30 A.r1) (k0_pay31 A.r2) (A.gxs L) (A.gys L)
/-- Plane `p` at the tile's samples. -/
def In.at (A : In F) (L : grid0.Coords) (p : ℕ) : S2592.Idx → F .f32 := fun x => A.img (lin 6291456 (262144 * p + (A.fa L x).toNat))
/-- The 288 outputs of plane `p` that the tile computes. -/
def In.out (A : In F) (L : grid0.Coords) (p : ℕ) : S288.Idx → F .f32 := acc (A.at L p) (A.w L)

theorem In.fa_lt (A : In F) (L : grid0.Coords) (x : S2592.Idx) : (A.fa L x).toNat < 262144 := faS_lt _ _

/-- Plane `p`, element `k`, is element `262144 p + k` of the image. -/
theorem plane_read (A : In F) (p : ℕ) (hp : p < 24) (k : ℕ) (hk : k < 262144) :
    (plane p hp).view.read (Elt F) A.img (lin 262144 k) = A.img (lin 6291456 (262144 * p + k)) := by
  show A.img _ = A.img _
  refine congrArg A.img (idx1_ext ?_)
  rw [lin_val 6291456 _ (by omega)]
  show 262144 * p + 1 * (0 + 1 * (lin 262144 k 0).val) = _
  rw [lin_val _ _ hk]
  omega

section Plane

variable (d : Dev nD) (L : grid0.Coords) (A : In F)

/-- The program `p`, then `k`. -/
theorem twp_step {α : Type} {P B : sProp 𝕄} {Q : α → sProp 𝕄} {p : TP F L PUnit} (h : P ⊢ twp d L p fun _ => B) (k : TP F L α) :
    P ⊢ iprop((B -∗ twp d L k Q) -∗ twp d L (p >>= fun _ => k) Q) := by
  unfold twp at *
  iintro HP Hk
  rw [wp_bind]
  iapply (wp_wand_r frame (wpE (defs₀ (F := F)) 𝒱₀ (thr d L) none) Set.univ)
  isplitl [HP]
  · iapply h; iexact HP
  · iintro %_ HB
    iapply Hk; iexact HB

/-- The last step of a program. -/
theorem twp_last {P B : sProp 𝕄} {Q : PUnit → sProp 𝕄} {p : TP F L PUnit} (h : P ⊢ twp d L p fun _ => B) :
    P ⊢ iprop((B -∗ Q ⟨⟩) -∗ twp d L p Q) := by
  unfold twp at *
  iintro HP Hk
  iapply (wp_wand_r frame (wpE (defs₀ (F := F)) 𝒱₀ (thr d L) none) Set.univ)
  isplitl [HP]
  · iapply h; iexact HP
  · iintro %_ HB
    iapply Hk; iexact HB

/-- Two contents that read the same through a view agree on its set. -/
theorem agree_of_read {sp : Space} {s : Shape} {e : EltTy} (v : View sig .scVector sp s e) (f g : v.ty.Contents (Elt F))
    (h : v.read (Elt F) f = v.read (Elt F) g) : ∀ i ∈ v.set, f i = g i := by
  intro i hi
  obtain ⟨y, -, rfl⟩ := Finset.mem_map.mp hi
  have hy := congrFun h y
  rw [View.read_apply, View.read_apply] at hy
  exact eq_of_heq ((cast_heq _ _).symm.trans ((heq_of_eq hy).trans (cast_heq _ _)))

/-- A region may be held at any contents that read the same. -/
theorem pointsTo_agree {sp : Space} {s : Shape} {e : EltTy} (m : Memref sig .scVector sp s e) (f g : Buf (Elt F) (m.view.loc (thr d L)))
    (h : m.view.read (Elt F) f = m.view.read (Elt F) g) :
    (m.view.loc (thr d L) ↦[m.view.set]{fullShare} f : sProp 𝕄) ⊢ (m.view.loc (thr d L) ↦[m.view.set]{fullShare} g : sProp 𝕄) := by
  rw [pointsTo_congr (agree_of_read m.view f g h)]

variable (fo : Buf (Elt F) (faV.view.loc (thr d L))) (hfo : faV.view.read (Elt F) fo = A.fa L)

/-- The gather of plane `p` under way. -/
def Flying (p : ℕ) (hp : p < 24) (buf : Memref sig .scVector .vmem S2592 .f32) (sem : DmaSems sig S_) (q qo : PosShare TreeShare) : sProp 𝕄 :=
  InFlight (F := F) d L (plane p hp) gathers_S262144_S2592 faV buf sem.sem q qo A.img fo
    (fun x => by rw [hfo]; exact A.fa_lt L x)

/-- The gather of plane `p` begins. -/
theorem wp_issue (p : ℕ) (hp : p < 24) (buf : Memref sig .scVector .vmem S2592 .f32) (hbuf : buf.IsWhole) (sem : DmaSems sig S_) (q qo : PosShare TreeShare) :
    iprop((imgM.view.loc (thr d L) ↦{q} A.img) ∗ (∃ fd, buf.view.loc (thr d L) ↦{fullShare} fd) ∗ (faV.view.loc (thr d L) ↦{qo} fo)
        ∗ semVal (thr d L, SemLoc.dma sem.sem) 0)
      ⊢ twp d L (issue L p hp buf sem) fun _ => Flying d L A fo hfo p hp buf sem q qo :=
  wp_gissue d L (plane p hp) gathers_S262144_S2592 faV (Memref.isWhole_whole _) buf hbuf sem.sem q qo A.img fo _ _ _

include hfo in
/-- The samples gathered are the plane at the tile's addresses. -/
theorem plane_samples (p : ℕ) (hp : p < 24) (hin : ∀ x, (faV.view.read (Elt F) fo x).toNat < S262144.size gathers_S262144_S2592.axis) :
    SparseCore.gatherPayload gathers_S262144_S2592 ((plane p hp).view.read (Elt F) A.img) (SparseCore.rows (faV.view.read (Elt F) fo) rfl hin) = A.at L p := by
  funext x
  refine (gather_apply (n := 262144) gathers_S262144_S2592 _ _ hin x).trans ?_
  rw [hfo]
  exact plane_read A p hp _ (A.fa_lt L x)

set_option maxHeartbeats 1000000 in
/-- Draining plane `p`: the gather ends, its outputs are accumulated and copied to their place. -/
theorem wp_drain (p : Fin 24) (buf : Memref sig .scVector .vmem S2592 .f32) (hbuf : buf.IsWhole) (sem rsem : DmaSems sig S_) (q qo : PosShare TreeShare)
    (fw : Buf (Elt F) (wV.view.loc (thr d L))) (hfw : wV.view.read (Elt F) fw = A.w L)
    (f₀ OUT : Buf (Elt F) ((outP L p).view.loc (thr d L))) (hOUT : (outP L p).view.read (Elt F) OUT = A.out L p.val)
    (O : CellTallies nD τ sig (HIx 1)) (W : Waits sig (HIx 1)) :
    iprop(Transfers.MayWaits (thr d L) (none : HIx 1) O ∗ Flying d L A fo hfo p.val p.isLt buf sem q qo
        ∗ (wV.view.loc (thr d L) ↦{fullShare} fw) ∗ (∃ f, ouV.view.loc (thr d L) ↦{fullShare} f)
        ∗ ((outP L p).view.loc (thr d L) ↦[(outP L p).view.set]{fullShare} f₀)
        ∗ semVal (thr d L, SemLoc.dma rsem.sem) 0 ∗ OW (F := F) d L O W)
      ⊢ twp d L (drain L p buf hbuf sem rsem) fun _ =>
        iprop((imgM.view.loc (thr d L) ↦{q} A.img) ∗ (∃ fd, buf.view.loc (thr d L) ↦{fullShare} fd) ∗ (faV.view.loc (thr d L) ↦{qo} fo)
          ∗ semVal (thr d L, SemLoc.dma sem.sem) 0
          ∗ (wV.view.loc (thr d L) ↦{fullShare} fw) ∗ (∃ f, ouV.view.loc (thr d L) ↦{fullShare} f)
          ∗ ((outP L p).view.loc (thr d L) ↦[(outP L p).view.set]{fullShare} OUT)
          ∗ semVal (thr d L, SemLoc.dma rsem.sem) 0 ∗ OW (F := F) d L O W) := by
  unfold drain Flying
  iintro ⟨#Hmw, Hfl, Hw, Hou, Hout, Hr, HO⟩
  iapply (twp_step d L (wp_gwait d L (plane p.val p.isLt) gathers_S262144_S2592 faV (Memref.isWhole_whole _) buf hbuf sem.sem q qo A.img fo _ O W _ _)) $$ [Hfl HO]
  · isplitr; · iexact Hmw
    isplitl [Hfl]; · iexact Hfl
    iexact HO
  iintro ⟨Hi, ⟨%fb, %hfb, Hb⟩, Hf, Hs, HO⟩
  rw [plane_samples d L A fo hfo] at hfb
  iapply (twp_step d L (wp_acc d L buf fullShare fb fw _ _ hfb hfw)) $$ [Hb Hw Hou]
  · isplitl [Hb]; · iexact Hb
    isplitl [Hw]; · iexact Hw
    iexact Hou
  iintro ⟨Hb, Hw, %fu, %hfu, Hu⟩
  iapply (twp_last d L (wp_copy d L ouV (outP L p) rsem.sem fullShare fu f₀ (by decide) O W _ _ _)) $$ [Hu Hout Hr HO]
  · isplitr; · iexact Hmw
    isplitl [Hu]; · rw [(Memref.isWhole_whole cc0_scratch7 : ouV.IsWhole).set_eq_univ]; iexact Hu
    isplitl [Hout]; · iexact Hout
    isplitl [Hr]; · iexact Hr
    iexact HO
  iintro ⟨Hu, Hout, Hr, HO⟩
  isplitl [Hi]; · iexact Hi
  isplitl [Hb]; · iexists fb; iexact Hb
  isplitl [Hf]; · iexact Hf
  isplitl [Hs]; · iexact Hs
  isplitl [Hw]; · iexact Hw
  isplitl [Hu]
  · iexists fu
    rw [(Memref.isWhole_whole cc0_scratch7 : ouV.IsWhole).set_eq_univ]; iexact Hu
  isplitl [Hout]
  · iapply (pointsTo_agree d L (outP L p) _ OUT ((View.read_write_univ _ _).trans (hfu.trans hOUT.symm))) $$ Hout
  isplitl [Hr]; · iexact Hr
  iexact HO

end Plane

end Cert.Proof.I

end
-- ==== Proof.IBody.lean ====
/-
  The rounds over the planes, and what comes before them.
-/
module

public import proofs.«01_k».proof.Proof.IRound

@[expose] public section

noncomputable section

namespace Cert.Proof.I

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable {F : FTy → Type} [FloatOps F] [Named F]

local notation "𝕄" => MT nD τ sig (HIx 1) (Elt F) ℕ UU ℕ

theorem bufM_step (k : ℕ) : bufM (k + 2) = bufM k := by unfold bufM; rw [Nat.add_mod_right]
theorem bufS_step (k : ℕ) : bufS (k + 2) = bufS k := by unfold bufS; rw [Nat.add_mod_right]

/-- The half of a share that plane `k`'s gather uses. -/
def half (q : PosShare TreeShare) (k : ℕ) : PosShare TreeShare := if k % 2 = 0 then q.left else q.right
theorem half_step (q : PosShare TreeShare) (k : ℕ) : half q (k + 2) = half q k := by unfold half; rw [Nat.add_mod_right]

section Rounds

variable (d : Dev nD) (L : grid0.Coords) (A : In F)

/-- The tile's 24 pieces of the output, of which the first `k` are done. -/
def pieces (f₀ OUT : Buf (Elt F) (outM.view.loc (thr d L))) (k : ℕ) : sProp 𝕄 :=
  bigSep Finset.univ fun p : Fin 24 => ((outP L p).view.loc (thr d L) ↦[(outP L p).view.set]{fullShare} (if p.val < k then OUT else f₀) : sProp 𝕄)

/-- All the pieces but `p`. -/
def others (f₀ OUT : Buf (Elt F) (outM.view.loc (thr d L))) (p : Fin 24) : sProp 𝕄 :=
  bigSep (Finset.univ.erase p) fun p' : Fin 24 => ((outP L p').view.loc (thr d L) ↦[(outP L p').view.set]{fullShare} (if p'.val < p.val then OUT else f₀) : sProp 𝕄)

theorem pieces_take (f₀ OUT : Buf (Elt F) (outM.view.loc (thr d L))) (p : Fin 24) :
    pieces d L f₀ OUT p.val ⊢ iprop(((outP L p).view.loc (thr d L) ↦[(outP L p).view.set]{fullShare} f₀) ∗ others d L f₀ OUT p) := by
  unfold pieces others
  rw [SparseCore.bigSep_erase' (Finset.mem_univ p), if_neg (Nat.lt_irrefl _)]

theorem others_eq (f₀ OUT : Buf (Elt F) (outM.view.loc (thr d L))) (p : Fin 24) :
    others d L f₀ OUT p = bigSep (Finset.univ.erase p) fun p' : Fin 24 =>
      ((outP L p').view.loc (thr d L) ↦[(outP L p').view.set]{fullShare} (if p'.val < p.val + 1 then OUT else f₀) : sProp 𝕄) := by
  unfold others
  refine Idealize.SL.BI.bigSep_congr fun p' hp' => ?_
  have hne : p'.val ≠ p.val := fun h => (Finset.mem_erase.mp hp').1 (Fin.ext h)
  have e : (if p'.val < p.val then OUT else f₀) = (if p'.val < p.val + 1 then OUT else f₀) := by
    by_cases h : p'.val < p.val
    · rw [if_pos h, if_pos (by omega)]
    · rw [if_neg h, if_neg (by omega)]
  rw [e]

theorem pieces_put (f₀ OUT : Buf (Elt F) (outM.view.loc (thr d L))) (p : Fin 24) :
    iprop(((outP L p).view.loc (thr d L) ↦[(outP L p).view.set]{fullShare} OUT) ∗ others d L f₀ OUT p) ⊢ pieces d L f₀ OUT (p.val + 1) := by
  rw [others_eq]
  unfold pieces
  rw [SparseCore.bigSep_erase' (Finset.mem_univ p), if_pos (Nat.lt_succ_self _)]

/-- The semaphores of the copies to the output, all at zero. -/
def outSems : sProp 𝕄 := bigSep Finset.univ fun p : Fin 24 => (semVal (thr d L, SemLoc.dma (outS p).sem) 0 : sProp 𝕄)

/-- All of them but plane `p`'s. -/
def otherSems (p : Fin 24) : sProp 𝕄 := bigSep (Finset.univ.erase p) fun p : Fin 24 => (semVal (thr d L, SemLoc.dma (outS p).sem) 0 : sProp 𝕄)

theorem outSems_eq (p : Fin 24) : (outSems d L : sProp 𝕄) = iprop(semVal (thr d L, SemLoc.dma (outS p).sem) 0 ∗ otherSems d L p) := by
  unfold outSems otherSems
  rw [SparseCore.bigSep_erase' (Finset.mem_univ p)]
theorem outSems_take (p : Fin 24) : (outSems d L : sProp 𝕄) ⊢ iprop(semVal (thr d L, SemLoc.dma (outS p).sem) 0 ∗ otherSems d L p) := by rw [outSems_eq d L p]
theorem outSems_put (p : Fin 24) : iprop(semVal (thr d L, SemLoc.dma (outS p).sem) 0 ∗ otherSems d L p) ⊢ (outSems d L : sProp 𝕄) := by rw [outSems_eq d L p]

variable (q : PosShare TreeShare) (fo : Buf (Elt F) (faV.view.loc (thr d L))) (hfo : faV.view.read (Elt F) fo = A.fa L)
  (fw : Buf (Elt F) (wV.view.loc (thr d L))) (hfw : wV.view.read (Elt F) fw = A.w L)
  (f₀ OUT : Buf (Elt F) (outM.view.loc (thr d L))) (hOUT : ∀ p : Fin 24, (outP L p).view.read (Elt F) OUT = A.out L p.val)
  (O : CellTallies nD τ sig (HIx 1)) (W : Waits sig (HIx 1))

/-- Before plane `k` is drained: its gather is under way, the other buffer is free, and the planes before it are done. -/
def Before (k : ℕ) (hk : k < 24) : sProp 𝕄 :=
  iprop(Transfers.MayWaits (thr d L) (none : HIx 1) O
    ∗ Flying d L A fo hfo k hk (bufM k) (bufS k) (half q k) (half fullShare k)
    ∗ (∃ f, (bufM (k + 1)).view.loc (thr d L) ↦{fullShare} f) ∗ semVal (thr d L, SemLoc.dma (bufS (k + 1)).sem) 0
    ∗ (imgM.view.loc (thr d L) ↦{half q (k + 1)} A.img) ∗ (faV.view.loc (thr d L) ↦{half fullShare (k + 1)} fo)
    ∗ (wV.view.loc (thr d L) ↦{fullShare} fw) ∗ (∃ f, ouV.view.loc (thr d L) ↦{fullShare} f)
    ∗ pieces d L f₀ OUT k ∗ outSems d L ∗ OW (F := F) d L O W)

include hfw hOUT in
set_option maxHeartbeats 1000000 in
/-- One round. -/
theorem wp_round (p : Fin 23) :
    Before d L A q fo hfo fw f₀ OUT O W p.val (by omega) ⊢ twp d L (round L p) fun _ => Before d L A q fo hfo fw f₀ OUT O W (p.val + 1) (by omega) := by
  have hp : p.val < 24 := by omega
  have hp1 : p.val + 1 < 24 := by omega
  unfold Before round
  rw [show p.val + 1 + 1 = p.val + 2 from rfl, bufM_step, bufS_step, half_step, half_step]
  iintro ⟨#Hmw, Hfl, Hb, Hs, Hi, Hf, Hw, Hu, Hp, Ho, HO⟩
  ihave Hp := (pieces_take d L f₀ OUT ⟨p.val, hp⟩) $$ Hp
  icases Hp with ⟨Hp, Hps⟩
  ihave Ho := (outSems_take d L ⟨p.val, hp⟩) $$ Ho
  icases Ho with ⟨Ho, Hos⟩
  iapply (twp_step d L (wp_issue d L A fo hfo (p.val + 1) hp1 (bufM (p.val + 1)) (bufM_whole _) (bufS (p.val + 1)) _ _)) $$ [Hi Hb Hf Hs]
  · isplitl [Hi]; · iexact Hi
    isplitl [Hb]; · iexact Hb
    isplitl [Hf]; · iexact Hf
    iexact Hs
  iintro Hfl'
  iapply (twp_last d L (wp_drain d L A fo hfo ⟨p.val, hp⟩ (bufM p.val) (bufM_whole _) (bufS p.val) (outS ⟨p.val, hp⟩) (half q p.val) (half fullShare p.val)
    fw hfw f₀ OUT (hOUT _) O W)) $$ [Hfl Hw Hu Hp Ho HO]
  · isplitr; · iexact Hmw
    isplitl [Hfl]; · iexact Hfl
    isplitl [Hw]; · iexact Hw
    isplitl [Hu]; · iexact Hu
    isplitl [Hp]; · iexact Hp
    isplitl [Ho]; · iexact Ho
    iexact HO
  iintro ⟨Hi, Hb, Hf, Hs, Hw, Hu, Hp, Ho, HO⟩
  isplitr; · iexact Hmw
  isplitl [Hfl']; · iexact Hfl'
  isplitl [Hb]; · iexact Hb
  isplitl [Hs]; · iexact Hs
  isplitl [Hi]; · iexact Hi
  isplitl [Hf]; · iexact Hf
  isplitl [Hw]; · iexact Hw
  isplitl [Hu]; · iexact Hu
  isplitl [Hp Hps]
  · iapply (pieces_put d L f₀ OUT ⟨p.val, hp⟩)
    isplitl [Hp] <;> iassumption
  isplitl [Ho Hos]
  · iapply (outSems_put d L ⟨p.val, hp⟩)
    isplitl [Ho] <;> iassumption
  iexact HO

/-- The invariant of the rounds. -/
def roundInv (k : ℕ) : sProp 𝕄 := if h : k < 24 then Before d L A q fo hfo fw f₀ OUT O W k h else iprop(emp)

include hfw hOUT in
/-- The rounds drain the first 23 planes. -/
theorem wp_rounds :
    Before d L A q fo hfo fw f₀ OUT O W 0 (by omega)
      ⊢ twp d L (Scf.forFrom (fun (p : Fin 23) (_ : PUnit) => round (F := F) L p) (List.finRange 23) ⟨⟩) fun _ => Before d L A q fo hfo fw f₀ OUT O W 23 (by omega) := by
  have hb : ∀ (k : Fin 23) (a : PUnit), roundInv d L A q fo hfo fw f₀ OUT O W k.val ⊢ twp d L (round L k) fun _ => roundInv d L A q fo hfo fw f₀ OUT O W (k.val + 1) := by
    intro k _
    have h := wp_round d L A q fo hfo fw hfw f₀ OUT hOUT O W k
    unfold roundInv
    rw [dif_pos (show k.val < 24 by omega), dif_pos (show k.val + 1 < 24 by omega)]
    exact h
  have h0 : roundInv d L A q fo hfo fw f₀ OUT O W 0 = Before d L A q fo hfo fw f₀ OUT O W 0 (by omega) := dif_pos (by omega)
  have h23 : roundInv d L A q fo hfo fw f₀ OUT O W 23 = Before d L A q fo hfo fw f₀ OUT O W 23 (by omega) := dif_pos (by omega)
  have hw := Scf.wp_forFrom frame (wpE (defs₀ (F := F)) 𝒱₀ (thr d L) none) Set.univ (fun (p : Fin 23) (_ : PUnit) => round (F := F) L p)
    (fun k _ => roundInv d L A q fo hfo fw f₀ OUT O W k) hb (Q := fun _ => Before d L A q fo hfo fw f₀ OUT O W 23 (by omega)) 0 (by omega) ⟨⟩
  rw [List.drop_zero, h0, h23] at hw
  unfold twp
  iintro H
  iapply hw
  isplitl
  · iexact H
  · iintro %_ H; iexact H

/-- After the last plane: everything back, and the 24 pieces done. -/
def After : sProp 𝕄 :=
  iprop((imgM.view.loc (thr d L) ↦{q} A.img) ∗ (∃ f, aV.view.loc (thr d L) ↦{fullShare} f) ∗ (∃ f, bV.view.loc (thr d L) ↦{fullShare} f)
    ∗ (∃ f, faV.view.loc (thr d L) ↦{fullShare} f) ∗ (∃ f, wV.view.loc (thr d L) ↦{fullShare} f) ∗ (∃ f, ouV.view.loc (thr d L) ↦{fullShare} f)
    ∗ semVal (thr d L, SemLoc.dma cc0_scratch9.sem) 0 ∗ semVal (thr d L, SemLoc.dma cc0_scratch10.sem) 0
    ∗ pieces d L f₀ OUT 24 ∗ outSems d L ∗ OW (F := F) d L O W)

/-- All the planes, from the addresses and weights. -/
def planes (L : grid0.Coords) : TP F L PUnit := do
  issue L 0 (by omega) (bufM 0) (bufS 0)
  Scf.forFrom (fun (p : Fin 23) (_ : PUnit) => round L p) (List.finRange 23) ⟨⟩
  drain L ⟨23, by omega⟩ (bufM 23) (bufM_whole 23) (bufS 23) (outS ⟨23, by omega⟩)

include hfo hfw hOUT in
set_option maxHeartbeats 1000000 in
theorem wp_planes :
    iprop(Transfers.MayWaits (thr d L) (none : HIx 1) O ∗ (imgM.view.loc (thr d L) ↦{q} A.img)
        ∗ (∃ f, aV.view.loc (thr d L) ↦{fullShare} f) ∗ (∃ f, bV.view.loc (thr d L) ↦{fullShare} f)
        ∗ (faV.view.loc (thr d L) ↦{fullShare} fo) ∗ (wV.view.loc (thr d L) ↦{fullShare} fw) ∗ (∃ f, ouV.view.loc (thr d L) ↦{fullShare} f)
        ∗ semVal (thr d L, SemLoc.dma cc0_scratch9.sem) 0 ∗ semVal (thr d L, SemLoc.dma cc0_scratch10.sem) 0
        ∗ pieces d L f₀ OUT 0 ∗ outSems d L ∗ OW (F := F) d L O W)
      ⊢ twp d L (planes L) fun _ => After d L A q f₀ OUT O W := by
  have h0 : 0 < 24 := by omega
  have h23 : 23 < 24 := by omega
  have hi := (pointsTo_share (ℓ := imgM.view.loc (thr d L)) (I := Finset.univ) (f := A.img) (PosShare.mem_left_op_right q) : (_ : sProp 𝕄) ⊣⊢ _)
  have hf := (pointsTo_share (ℓ := faV.view.loc (thr d L)) (I := Finset.univ) (f := fo) (PosShare.mem_left_op_right fullShare) : (_ : sProp 𝕄) ⊣⊢ _)
  unfold planes After
  iintro ⟨#Hmw, Hi, Ha, Hb, Hf, Hw, Hu, Hs, Ht, Hp, Ho, HO⟩
  ihave Hi := hi.1 $$ Hi
  icases Hi with ⟨Hi, Hi'⟩
  ihave Hf := hf.1 $$ Hf
  icases Hf with ⟨Hf, Hf'⟩
  iapply (twp_step d L (wp_issue d L A fo hfo 0 h0 (bufM 0) (bufM_whole _) (bufS 0) (half q 0) (half fullShare 0))) $$ [Hi Ha Hf Hs]
  · isplitl [Hi]; · iexact Hi
    isplitl [Ha]; · iexact Ha
    isplitl [Hf]; · iexact Hf
    iexact Hs
  iintro Hfl
  iapply (twp_step d L (wp_rounds d L A q fo hfo fw hfw f₀ OUT hOUT O W)) $$ [Hfl Hb Ht Hi' Hf' Hw Hu Hp Ho HO]
  · unfold Before
    isplitr; · iexact Hmw
    isplitl [Hfl]; · iexact Hfl
    isplitl [Hb]; · iexact Hb
    isplitl [Ht]; · iexact Ht
    isplitl [Hi']; · iexact Hi'
    isplitl [Hf']; · iexact Hf'
    isplitl [Hw]; · iexact Hw
    isplitl [Hu]; · iexact Hu
    isplitl [Hp]; · iexact Hp
    isplitl [Ho]; · iexact Ho
    iexact HO
  unfold Before
  iintro ⟨-, Hfl, Ha, Hs, Hi, Hf, Hw, Hu, Hp, Ho, HO⟩
  ihave Hp := (pieces_take d L f₀ OUT ⟨23, h23⟩) $$ Hp
  icases Hp with ⟨Hp, Hps⟩
  ihave Ho := (outSems_take d L ⟨23, h23⟩) $$ Ho
  icases Ho with ⟨Ho, Hos⟩
  iapply (twp_last d L (wp_drain d L A fo hfo ⟨23, h23⟩ (bufM 23) (bufM_whole _) (bufS 23) (outS ⟨23, h23⟩) (half q 23) (half fullShare 23)
    fw hfw f₀ OUT (hOUT _) O W)) $$ [Hfl Hw Hu Hp Ho HO]
  · isplitr; · iexact Hmw
    isplitl [Hfl]; · iexact Hfl
    isplitl [Hw]; · iexact Hw
    isplitl [Hu]; · iexact Hu
    isplitl [Hp]; · iexact Hp
    isplitl [Ho]; · iexact Ho
    iexact HO
  iintro ⟨Hi', Hb, Hf', Ht, Hw, Hu, Hp, Ho, HO⟩
  isplitl [Hi Hi']
  · iapply hi.2
    isplitl [Hi]; · iexact Hi
    iexact Hi'
  isplitl [Ha]; · iexact Ha
  isplitl [Hb]; · iexact Hb
  isplitl [Hf Hf']
  · iexists fo
    iapply hf.2
    isplitl [Hf]; · iexact Hf
    iexact Hf'
  isplitl [Hw]; · iexists fw; iexact Hw
  isplitl [Hu]; · iexact Hu
  isplitl [Hs]; · iexact Hs
  isplitl [Ht]; · iexact Ht
  isplitl [Hp Hps]
  · iapply (pieces_put d L f₀ OUT ⟨23, h23⟩)
    isplitl [Hp] <;> iassumption
  isplitl [Ho Hos]
  · iapply (outSems_put d L ⟨23, h23⟩)
    isplitl [Ho] <;> iassumption
  iexact HO

end Rounds

/-! ## The prelude -/

section Prelude

variable (d : Dev nD) (L : grid0.Coords) (A : In F)

/-- A coordinate array addressed whole. -/
theorem all_read (g : (gxM).view.ty.Contents (Elt F)) (k : ℕ) :
    gxAll.view.read (Elt F) g (lin 82944 k) = g (lin 82944 k) := by
  show g _ = g _
  refine congrArg g (idx1_ext ?_)
  show 0 + 1 * (lin 82944 k 0).val = _
  omega

/-- The loads of the parameter rows and the address loop. -/
def addresses (L : grid0.Coords) : TP F L PUnit := do
  let v7 : Vec F S1x16 .f32 ← Prog.lift (.load paV (Rect.unit (s := S3x16) ![0, 0] S1x16.size inb_S3x16_S1x16_0_0).toLoadRect (View.loadsAt_vmem h_S1x16))
  let v10 : Vec F S1x16 .f32 ← Prog.lift (.load paV (Rect.unit (s := S3x16) ![1, 0] S1x16.size inb_S3x16_S1x16_1_0).toLoadRect (View.loadsAt_vmem h_S1x16))
  let v13 : Vec F S1x16 .f32 ← Prog.lift (.load paV (Rect.unit (s := S3x16) ![2, 0] S1x16.size inb_S3x16_S1x16_2_0).toLoadRect (View.loadsAt_vmem h_S1x16))
  Scf.Loop.for k0_t1_loop k0_t1_ok ⟨⟩ (addrBody L v7 v10 v13)

/-- Copying the parameters in. -/
def parIn (L : grid0.Coords) : TP F L PUnit := do
  Prog.lift (.enqueueDma parM (.here paV) (.dma cc0_scoped0.sem) (Memref.isWhole_whole _).wordExact (Memref.isWhole_whole _).wordExact ⟨Or.inl rfl, trivial⟩)
  Prog.lift (.waitDma2 cc0_scoped0.sem parM paV (Memref.isWhole_whole _).wordExact (Memref.isWhole_whole _).wordExact)

/-- Copying the row of neighbour indices in. -/
def knnIn (L : grid0.Coords) : TP F L PUnit := do
  Prog.lift (.enqueueDma (knnRow L) (.here knV) (.dma cc0_scoped1.sem) ((View.wordExact_bits rfl).reshape _ _) (Memref.isWhole_whole _).wordExact ⟨Or.inl rfl, trivial⟩)
  Prog.lift (.waitDma2 cc0_scoped1.sem (knnRow L) knV ((View.wordExact_bits rfl).reshape _ _) (Memref.isWhole_whole _).wordExact)

/-- Gathering one coordinate array at the neighbour indices. -/
def coordIn (L : grid0.Coords) (src : Memref sig .scVector .hbm S82944 .f32) (dst : Memref sig .scVector .vmem S2592 .f32) (hdst : dst.IsWhole) : TP F L PUnit := do
  SparseCore.enqueueIndirectGather rfl src dst gathers_S82944_S2592 knV rfl cc0_scratch9.sem (View.wordExact_bits rfl) rfl (Or.inl rfl)
  SparseCore.waitIndirectGather cc0_scratch9.sem src dst (View.wordExact_bits rfl) hdst.wordExact

theorem prelude_eq : prelude (F := F) L = (do
    parIn L
    knnIn L
    coordIn L gxAll gxV (Memref.isWhole_whole _)
    coordIn L gyAll gyV (Memref.isWhole_whole _)
    addresses L) := by
  unfold prelude parIn knnIn coordIn addresses
  simp only [bind_assoc]

set_option maxHeartbeats 1000000 in
/-- The addresses and weights, from the parameters and the gathered coordinates. -/
theorem wp_addresses (fp : Buf (Elt F) (paV.view.loc (thr d L))) (hfp : fp = A.par)
    (fx : Buf (Elt F) (gxV.view.loc (thr d L))) (fy : Buf (Elt F) (gyV.view.loc (thr d L)))
    (hx : gxV.view.read (Elt F) fx = A.gxs L) (hy : gyV.view.read (Elt F) fy = A.gys L) :
    iprop((paV.view.loc (thr d L) ↦{fullShare} fp) ∗ (gxV.view.loc (thr d L) ↦{fullShare} fx) ∗ (gyV.view.loc (thr d L) ↦{fullShare} fy)
        ∗ (∃ f, faV.view.loc (thr d L) ↦{fullShare} f) ∗ (∃ f, wV.view.loc (thr d L) ↦{fullShare} f))
      ⊢ twp d L (addresses L) fun _ =>
        iprop((paV.view.loc (thr d L) ↦{fullShare} fp) ∗ (gxV.view.loc (thr d L) ↦{fullShare} fx) ∗ (gyV.view.loc (thr d L) ↦{fullShare} fy)
          ∗ (∃ f, ⌜faV.view.read (Elt F) f = A.fa L⌝ ∗ (faV.view.loc (thr d L) ↦{fullShare} f))
          ∗ ∃ f, ⌜wV.view.read (Elt F) f = A.w L⌝ ∗ (wV.view.loc (thr d L) ↦{fullShare} f)) := by
  subst hfp
  unfold twp addresses
  iintro ⟨Hp, Hx, Hy, Hf, Hw⟩
  sl_exec
  iapply (twp_last d L (wp_addr d L A.r0 A.r1 A.r2 fx fy _ _ hx hy)) $$ [Hx Hy Hf Hw]
  · isplitl [Hx]; · iexact Hx
    isplitl [Hy]; · iexact Hy
    isplitl [Hf]; · iexact Hf
    iexact Hw
  iintro ⟨Hx, Hy, Hf, Hw⟩
  isplitl [Hp]; · iexact Hp
  isplitl [Hx]; · iexact Hx
  isplitl [Hy]; · iexact Hy
  isplitl [Hf]; · iexact Hf
  iexact Hw

variable (fk : Buf (Elt F) (knV.view.loc (thr d L))) (hfk : knV.view.read (Elt F) fk = A.kn L)
  (hkn : ∀ x, (A.kn L x).toNat < 82944) (q : PosShare TreeShare) (O : CellTallies nD τ sig (HIx 1)) (W : Waits sig (HIx 1))

include hfk hkn in
set_option maxHeartbeats 1000000 in
/-- One coordinate array gathered at the tile's neighbour indices. -/
theorem wp_coordIn (src : Memref sig .scVector .hbm S82944 .f32) (dst : Memref sig .scVector .vmem S2592 .f32) (hdst : dst.IsWhole)
    (g : Buf (Elt F) (src.view.loc (thr d L))) :
    iprop(Transfers.MayWaits (thr d L) (none : HIx 1) O ∗ (src.view.loc (thr d L) ↦{q} g) ∗ (∃ f, dst.view.loc (thr d L) ↦{fullShare} f)
        ∗ (knV.view.loc (thr d L) ↦{fullShare} fk) ∗ semVal (thr d L, SemLoc.dma cc0_scratch9.sem) 0 ∗ OW (F := F) d L O W)
      ⊢ twp d L (coordIn L src dst hdst) fun _ =>
        iprop((src.view.loc (thr d L) ↦{q} g)
          ∗ (∃ f, ⌜dst.view.read (Elt F) f = fun x => src.view.read (Elt F) g (lin 82944 (A.kn L x).toNat)⌝ ∗ (dst.view.loc (thr d L) ↦{fullShare} f))
          ∗ (knV.view.loc (thr d L) ↦{fullShare} fk) ∗ semVal (thr d L, SemLoc.dma cc0_scratch9.sem) 0 ∗ OW (F := F) d L O W) := by
  have hin : ∀ x, (knV.view.read (Elt F) fk x).toNat < S82944.size gathers_S82944_S2592.axis := fun x => by rw [hfk]; exact hkn x
  unfold coordIn
  iintro ⟨#Hmw, Hs, Hd, Hk, Hv, HO⟩
  iapply (twp_step d L (wp_gissue d L src gathers_S82944_S2592 knV (Memref.isWhole_whole _) dst hdst cc0_scratch9.sem q fullShare g fk hin _ _)) $$ [Hs Hd Hk Hv]
  · isplitl [Hs]; · iexact Hs
    isplitl [Hd]; · iexact Hd
    isplitl [Hk]; · iexact Hk
    iexact Hv
  iintro Hfl
  iapply (twp_last d L (wp_gwait d L src gathers_S82944_S2592 knV (Memref.isWhole_whole _) dst hdst cc0_scratch9.sem q fullShare g fk hin O W _ _)) $$ [Hfl HO]
  · isplitr; · iexact Hmw
    isplitl [Hfl]; · iexact Hfl
    iexact HO
  iintro ⟨Hs, ⟨%fb, %hfb, Hb⟩, Hk, Hv, HO⟩
  isplitl [Hs]; · iexact Hs
  isplitl [Hb]
  · iexists fb
    isplitr
    swap; · iexact Hb
    ipureintro
    rw [hfb]
    funext x
    refine (gather_apply (n := 82944) gathers_S82944_S2592 _ _ hin x).trans ?_
    rw [hfk]
  isplitl [Hk]; · iexact Hk
  isplitl [Hv]; · iexact Hv
  iexact HO

/-- What the prelude takes: its share of the four arrays, and the buffers and semaphores it uses. -/
def preludePre : sProp 𝕄 :=
  iprop((parM.view.loc (thr d L) ↦{q} A.par) ∗ (knnM.view.loc (thr d L) ↦{q} A.knn)
    ∗ (gxM.view.loc (thr d L) ↦{q} A.gx) ∗ (gyM.view.loc (thr d L) ↦{q} A.gy)
    ∗ (∃ f, paV.view.loc (thr d L) ↦{fullShare} f) ∗ (∃ f, knV.view.loc (thr d L) ↦{fullShare} f)
    ∗ (∃ f, gxV.view.loc (thr d L) ↦{fullShare} f) ∗ (∃ f, gyV.view.loc (thr d L) ↦{fullShare} f)
    ∗ semVal (thr d L, SemLoc.dma cc0_scoped0.sem) 0 ∗ semVal (thr d L, SemLoc.dma cc0_scoped1.sem) 0
    ∗ semVal (thr d L, SemLoc.dma cc0_scratch9.sem) 0)

include hkn in
set_option maxHeartbeats 1000000 in
/-- The prelude leaves the addresses and the weights of the tile's samples. -/
theorem wp_prelude :
    iprop(Transfers.MayWaits (thr d L) (none : HIx 1) O ∗ preludePre d L A q
        ∗ (∃ f, faV.view.loc (thr d L) ↦{fullShare} f) ∗ (∃ f, wV.view.loc (thr d L) ↦{fullShare} f) ∗ OW (F := F) d L O W)
      ⊢ twp d L (prelude L) fun _ =>
        iprop(preludePre d L A q
          ∗ (∃ f, ⌜faV.view.read (Elt F) f = A.fa L⌝ ∗ (faV.view.loc (thr d L) ↦{fullShare} f))
          ∗ (∃ f, ⌜wV.view.read (Elt F) f = A.w L⌝ ∗ (wV.view.loc (thr d L) ↦{fullShare} f)) ∗ OW (F := F) d L O W) := by
  have hsp := (pointsTo_split_subset (ℓ := knnM.view.loc (thr d L)) (q := q) (f := A.knn) (S := Finset.univ)
    (Finset.subset_univ (knnRow L).view.set) : (_ : sProp 𝕄) ⊣⊢ _)
  rw [prelude_eq]
  unfold preludePre
  iintro ⟨#Hmw, ⟨Hpar, Hknn, Hgx, Hgy, ⟨%fp, Hp⟩, ⟨%fk₀, Hk⟩, Hx, Hy, Hs0, Hs1, Hs9⟩, Hf, Hw, HO⟩
  iapply (twp_step d L (wp_copy d L parM paV cc0_scoped0.sem q A.par fp (by decide) O W _ _ _)) $$ [Hpar Hp Hs0 HO]
  · isplitr; · iexact Hmw
    isplitl [Hpar]; · rw [(Memref.isWhole_whole main_v20_scv : parM.IsWhole).set_eq_univ]; iexact Hpar
    isplitl [Hp]; · rw [(Memref.isWhole_whole cc0_scratch8 : paV.IsWhole).set_eq_univ]; iexact Hp
    isplitl [Hs0]; · iexact Hs0
    iexact HO
  iintro ⟨Hpar, Hp, Hs0, HO⟩
  ihave Hknn := hsp.1 $$ Hknn
  icases Hknn with ⟨Hknn, Hknn'⟩
  iapply (twp_step d L (wp_copy d L (knnRow L) knV cc0_scoped1.sem q A.knn fk₀ (by decide) O W _ _ _)) $$ [Hknn Hk Hs1 HO]
  · isplitr; · iexact Hmw
    isplitl [Hknn]; · iexact Hknn
    isplitl [Hk]; · rw [(Memref.isWhole_whole cc0_scratch0 : knV.IsWhole).set_eq_univ]; iexact Hk
    isplitl [Hs1]; · iexact Hs1
    iexact HO
  iintro ⟨Hknn, Hk, Hs1, HO⟩
  iapply (twp_step d L (wp_coordIn d L A (knV.view.write (Elt F) fk₀ (A.kn L) Finset.univ) (View.read_write_univ _ _) hkn q O W gxAll gxV (Memref.isWhole_whole _) A.gx)) $$ [Hgx Hx Hk Hs9 HO]
  · isplitr; · iexact Hmw
    isplitl [Hgx]; · iexact Hgx
    isplitl [Hx]; · iexact Hx
    isplitl [Hk]; · rw [← (Memref.isWhole_whole cc0_scratch0 : knV.IsWhole).set_eq_univ]; iexact Hk
    isplitl [Hs9]; · iexact Hs9
    iexact HO
  iintro ⟨Hgx, ⟨%fx, %hfx, Hx⟩, Hk, Hs9, HO⟩
  iapply (twp_step d L (wp_coordIn d L A (knV.view.write (Elt F) fk₀ (A.kn L) Finset.univ) (View.read_write_univ _ _) hkn q O W gyAll gyV (Memref.isWhole_whole _) A.gy)) $$ [Hgy Hy Hk Hs9 HO]
  · isplitr; · iexact Hmw
    isplitl [Hgy]; · iexact Hgy
    isplitl [Hy]; · iexact Hy
    isplitl [Hk]; · iexact Hk
    isplitl [Hs9]; · iexact Hs9
    iexact HO
  iintro ⟨Hgy, ⟨%fy, %hfy, Hy⟩, Hk, Hs9, HO⟩
  have hx : gxV.view.read (Elt F) fx = A.gxs L := hfx.trans (funext fun x => all_read A.gx _)
  have hy : gyV.view.read (Elt F) fy = A.gys L := hfy.trans (funext fun x => all_read A.gy _)
  iapply (twp_last d L (wp_addresses d L A (paV.view.write (Elt F) fp (parM.view.read (Elt F) A.par) Finset.univ) (View.write_whole_univ _ _ _) fx fy hx hy)) $$ [Hp Hx Hy Hf Hw]
  · isplitl [Hp]; · rw [← (Memref.isWhole_whole cc0_scratch8 : paV.IsWhole).set_eq_univ]; iexact Hp
    isplitl [Hx]; · iexact Hx
    isplitl [Hy]; · iexact Hy
    isplitl [Hf]; · iexact Hf
    iexact Hw
  iintro ⟨Hp, Hx, Hy, Hf, Hw⟩
  isplitl [Hpar Hknn Hknn' Hgx Hgy Hp Hk Hx Hy Hs0 Hs1 Hs9]
  · isplitl [Hpar]; · rw [← (Memref.isWhole_whole main_v20_scv : parM.IsWhole).set_eq_univ]; iexact Hpar
    isplitl [Hknn Hknn']
    · iapply hsp.2
      isplitl [Hknn]; · iexact Hknn
      iexact Hknn'
    isplitl [Hgx]; · iexact Hgx
    isplitl [Hgy]; · iexact Hgy
    isplitl [Hp]; · iexists _; iexact Hp
    isplitl [Hk]; · iexists _; iexact Hk
    isplitl [Hx]; · iexists fx; iexact Hx
    isplitl [Hy]; · iexists fy; iexact Hy
    isplitl [Hs0]; · iexact Hs0
    isplitl [Hs1]; · iexact Hs1
    iexact Hs9
  isplitl [Hf]; · iexact Hf
  isplitl [Hw]; · iexact Hw
  iexact HO

end Prelude

end Cert.Proof.I

end
-- ==== Proof.ITask.lean ====
/-
  The whole task of a tile, from its scratch memory, its semaphores and its share of the arrays.
-/
module

public import proofs.«01_k».proof.Proof.IBody

@[expose] public section

noncomputable section

namespace Cert.Proof.I

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable {F : FTy → Type} [FloatOps F] [Named F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

section Task

variable (d : Dev nD) (L : grid0.Coords)

/-! ## The tile's own memory -/

/-- The scratch buffers, listed. -/
def scr : Fin 9 → Ref sig .scVector :=
  ![cc0_scratch0, cc0_scratch1, cc0_scratch2, cc0_scratch3, cc0_scratch4, cc0_scratch5, cc0_scratch6, cc0_scratch7, cc0_scratch8]
theorem scr_inj : Function.Injective scr := by unfold Function.Injective; decide

/-- A scratch buffer held whole, at some contents. -/
def scrPts (k : Fin 9) : sProp 𝕄 := iprop(∃ f, ((thr d L).loc (scr k) ↦{fullShare} f))

/-- The buffers of the tile that its program does not use. -/
def restBufs : sProp 𝕄 :=
  bigSep ((ownRefs (τ := τ) (thr d L).2) \ (Finset.univ.image fun k => (thr d L).2.devRef (scr k))) fun b => iprop(∃ f, ((d, b) : Loc nD τ sig) ↦{fullShare} f)

theorem fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) := by
  rw [show (Finset.univ : Finset (Fin 9)) = {0, 1, 2, 3, 4, 5, 6, 7, 8} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

theorem fin4 (Φ : Fin 4 → sProp 𝕄) : bigSep Finset.univ Φ = iprop(Φ 0 ∗ Φ 1 ∗ Φ 2 ∗ Φ 3) := by
  rw [show (Finset.univ : Finset (Fin 4)) = {0, 1, 2, 3} by decide,
    SparseCore.bigSep_insert' (by decide), SparseCore.bigSep_insert' (by decide), SparseCore.bigSep_insert' (by decide), bigSep_singleton]

theorem ownBufs_eq : (ownBufs (thr d L) : sProp 𝕄)
    = iprop((scrPts d L 0 ∗ scrPts d L 1 ∗ scrPts d L 2 ∗ scrPts d L 3 ∗ scrPts d L 4 ∗ scrPts d L 5 ∗ scrPts d L 6 ∗ scrPts d L 7 ∗ scrPts d L 8) ∗ restBufs d L) := by
  unfold SparseCore.Cfg.ownBufs restBufs
  have hinj : Set.InjOn (fun k => (thr d L).2.devRef (scr k)) (Finset.univ : Finset (Fin 9)) :=
    fun a _ b _ h => scr_inj (Proc.devRef_injective _ h)
  have hsub : (Finset.univ.image fun k => (thr d L).2.devRef (scr k)) ⊆ ownRefs (τ := τ) (thr d L).2 := by
    intro b hb
    obtain ⟨k, -, rfl⟩ := Finset.mem_image.mp hb
    refine SparseCore.Cfg.mem_ownRefs_of_owner ?_
    fin_cases k <;> rfl
  rw [SparseCore.bigSep_sdiff_split' hsub, SparseCore.bigSep_image_of_injOn hinj, fin9]
  rfl

/-! ## The tile's own semaphores -/

/-- Semaphore `k` of the copies' table. -/
def dsem (k : Fin 28) : DmaSems sig S_ := SemArray.consecutive k.val S_ (by have := k.isLt; show k.val + 1 ≤ 28; omega)
def dcell (k : Fin 28) : GSem nD τ sig := (thr d L, SemLoc.dma (dsem k).sem)
theorem dsem_inj : Function.Injective fun k : Fin 28 => (SemLoc.dma (dsem k).sem : SemLoc sig) := by unfold Function.Injective; decide

/-- The semaphores of the tile that its program does not use. -/
def restSems : sProp 𝕄 := bigSep (ownCells (thr d L) \ (Finset.univ.image (dcell d L))) fun g => semVal g 0

theorem ownSems_eq : (ownSems0 (thr d L) : sProp 𝕄)
    = iprop(((semVal (thr d L, SemLoc.dma cc0_scratch9.sem) 0 ∗ semVal (thr d L, SemLoc.dma cc0_scratch10.sem) 0
        ∗ semVal (thr d L, SemLoc.dma cc0_scoped0.sem) 0 ∗ semVal (thr d L, SemLoc.dma cc0_scoped1.sem) 0) ∗ outSems d L) ∗ restSems d L) := by
  unfold SparseCore.Cfg.ownSems0 restSems
  have hinj : Set.InjOn (dcell d L) (Finset.univ : Finset (Fin 28)) := fun a _ b _ h => dsem_inj (congrArg Prod.snd h)
  have hsc : ∀ k : Fin 28, (SemLoc.dma (dsem k).sem : SemLoc sig).isScoped .scVector = true := by decide
  have hsub : (Finset.univ.image (dcell d L)) ⊆ ownCells (thr d L) := by
    intro b hb
    obtain ⟨k, -, rfl⟩ := Finset.mem_image.mp hb
    exact mem_ownCells.mpr ⟨rfl, hsc k⟩
  rw [SparseCore.bigSep_sdiff_split' hsub, SparseCore.bigSep_image_of_injOn hinj,
    bigSep_univ_equiv (finSumFinEquiv (m := 4) (n := 24)) (fun k : Fin 28 => semVal (dcell d L k) 0), bigSep_univ_sum, fin4]
  rfl

/-! ## What a tile is given and gives back -/

/-- A tile's share `q` of the five arrays it reads, and its 24 pieces of the output at contents `f`. -/
def taskRes (A : In F) (q : PosShare TreeShare) (f : Buf (Elt F) (outM.view.loc (thr d L))) : sProp 𝕄 :=
  iprop((imgM.view.loc (thr d L) ↦{q} A.img) ∗ (gxM.view.loc (thr d L) ↦{q} A.gx) ∗ (gyM.view.loc (thr d L) ↦{q} A.gy)
    ∗ (parM.view.loc (thr d L) ↦{q} A.par) ∗ (knnM.view.loc (thr d L) ↦{q} A.knn)
    ∗ bigSep Finset.univ fun p : Fin 24 => ((outP L p).view.loc (thr d L) ↦[(outP L p).view.set]{fullShare} f : sProp 𝕄))

variable (A : In F) (q : PosShare TreeShare) (f₀ OUT : Buf (Elt F) (outM.view.loc (thr d L)))

theorem pieces_none : pieces d L f₀ OUT 0 = bigSep Finset.univ fun p : Fin 24 => ((outP L p).view.loc (thr d L) ↦[(outP L p).view.set]{fullShare} f₀ : sProp 𝕄) := by
  unfold pieces
  exact Idealize.SL.BI.bigSep_congr fun p _ => by rw [if_neg (Nat.not_lt_zero _)]
theorem pieces_all : pieces d L f₀ OUT 24 = bigSep Finset.univ fun p : Fin 24 => ((outP L p).view.loc (thr d L) ↦[(outP L p).view.set]{fullShare} OUT : sProp 𝕄) := by
  unfold pieces
  exact Idealize.SL.BI.bigSep_congr fun p _ => by rw [if_pos p.isLt]

set_option maxHeartbeats 2000000 in
/-- The task: the pieces of the output hold what the tile's samples and weights give. -/
theorem tile_body (hkn : ∀ x, (A.kn L x).toNat < 82944) (hOUT : ∀ p : Fin 24, (outP L p).view.read (Elt F) OUT = A.out L p.val)
    (O : CellTallies nD τ sig (HIx 1)) (W : Waits sig (HIx 1)) (hO : ∀ g, O g none = 0) :
    iprop(levAts (K (F := F)).L (K (F := F)).lev ∗ emp ∗ taskRes d L A q f₀
        ∗ scopedBufs (thr d L) ∗ scopedSems0 (thr d L) ∗ owes (thr d L) O W)
      ⊢ twp d L (kern L) fun _ => iprop(taskRes d L A q OUT ∗ scopedBufs (thr d L) ∗ scopedSems0 (thr d L) ∗ OW (F := F) d L O W) := by
  rw [kern_eq, (K (F := F)).scopedBufs_V facts d (cV L) (jV L), SparseCore.Cfg.scopedSems0_V (Val := Elt F) d (cV L) (jV L), ownSems_eq, ownBufs_eq]
  unfold taskRes
  rw [← pieces_none d L f₀ OUT, ← pieces_all d L f₀ OUT]
  show _ ⊢ twp d L (prelude L >>= fun _ => planes L) _
  unfold scrPts
  iintro ⟨#Hlv, -, ⟨Hi, Hgx, Hgy, Hpar, Hknn, Hp⟩, ⟨⟨Hb0, Hb1, Hb2, Hb3, Hb4, Hb5, Hb6, Hb7, Hb8⟩, Hbufs⟩, ⟨⟨⟨Hs9, Hs10, Hs0, Hs1⟩, Ho⟩, Hsems⟩, HO⟩
  ihave #Hmw := (show levAts (K (F := F)).L (K (F := F)).lev ⊢ Transfers.MayWaits (thr d L) (none : HIx 1) O from
    (K (F := F)).mayWaits_none (thr := thr d L) hO) $$ Hlv
  iapply (twp_step d L (wp_prelude d L A hkn q O W)) $$ [Hgx Hgy Hpar Hknn Hb0 Hb1 Hb2 Hb3 Hb4 Hb8 Hs9 Hs0 Hs1 HO]
  · unfold preludePre OW
    isplitr; · iexact Hmw
    isplitl [Hgx Hgy Hpar Hknn Hb0 Hb1 Hb2 Hb8 Hs9 Hs0 Hs1]
    · isplitl [Hpar]; · iexact Hpar
      isplitl [Hknn]; · iexact Hknn
      isplitl [Hgx]; · iexact Hgx
      isplitl [Hgy]; · iexact Hgy
      isplitl [Hb8]; · iexact Hb8
      isplitl [Hb0]; · iexact Hb0
      isplitl [Hb1]; · iexact Hb1
      isplitl [Hb2]; · iexact Hb2
      isplitl [Hs0]; · iexact Hs0
      isplitl [Hs1]; · iexact Hs1
      iexact Hs9
    isplitl [Hb3]; · iexact Hb3
    isplitl [Hb4]; · iexact Hb4
    iexists W
    isplitr
    swap; · iexact HO
    ipureintro; exact fun p hp => .inl hp
  unfold preludePre
  iintro ⟨⟨Hpar, Hknn, Hgx, Hgy, Hb8, Hb0, Hb1, Hb2, Hs0, Hs1, Hs9⟩, ⟨%fo, %hfo, Hf⟩, ⟨%fw, %hfw, Hw⟩, HO⟩
  iapply (twp_last d L (wp_planes d L A q fo hfo fw hfw f₀ OUT hOUT O W)) $$ [Hi Hb5 Hb6 Hf Hw Hb7 Hs9 Hs10 Hp Ho HO]
  · isplitr; · iexact Hmw
    isplitl [Hi]; · iexact Hi
    isplitl [Hb5]; · iexact Hb5
    isplitl [Hb6]; · iexact Hb6
    isplitl [Hf]; · iexact Hf
    isplitl [Hw]; · iexact Hw
    isplitl [Hb7]; · iexact Hb7
    isplitl [Hs9]; · iexact Hs9
    isplitl [Hs10]; · iexact Hs10
    isplitl [Hp]; · iexact Hp
    isplitl [Ho]; · iexact Ho
    iexact HO
  unfold After
  iintro ⟨Hi, Hb5, Hb6, Hb3, Hb4, Hb7, Hs9, Hs10, Hp, Ho, HO⟩
  isplitl [Hi Hgx Hgy Hpar Hknn Hp]
  · isplitl [Hi]; · iexact Hi
    isplitl [Hgx]; · iexact Hgx
    isplitl [Hgy]; · iexact Hgy
    isplitl [Hpar]; · iexact Hpar
    isplitl [Hknn]; · iexact Hknn
    iexact Hp
  isplitl [Hb0 Hb1 Hb2 Hb3 Hb4 Hb5 Hb6 Hb7 Hb8 Hbufs]
  · isplitr [Hbufs]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      iexact Hb8
    iexact Hbufs
  isplitr [HO]
  · isplitr [Hsems]
    · isplitr [Ho]
      · isplitl [Hs9]; · iexact Hs9
        isplitl [Hs10]; · iexact Hs10
        isplitl [Hs0]; · iexact Hs0
        iexact Hs1
      iexact Ho
    iexact Hsems
  iexact HO

end Task

end Cert.Proof.I

end
-- ==== Proof.ISplit.lean ====
/-
  The arrays in main memory, dealt to the 32 tiles: a share of each array read, 24 pieces of the output.
-/
module

public import proofs.«01_k».proof.Proof.ITask
public import Idealize.ShloMosaic.Lib.ShareLeaves

@[expose] public section

noncomputable section

namespace Cert.Proof.I

open Cert.KernelIdeal Cert.KernelIdeal.Gen
open Idealize.ShloMosaic
open Idealize.ShloMosaic.ShareLeaves (leaf pointsTo_leaves)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable {F : FTy → Type} [FloatOps F] [Named F]

local notation "𝕄" => MT nD τ sig (HIx 1) (Elt F) ℕ UU ℕ

/-- The grid point of core `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The grid point of core `c`, subcore `s`, the bounds in numerals. -/
abbrev pt (c : Fin 2) (s : Fin 16) : grid0.Coords := coordsV c s

/-- Piece `p` of the tile on core `c`, subcore `s`, starts at `9216 p + 288 (2 s + c)`. -/
theorem off6_eq : ∀ (c : Fin 2) (s : Fin 16) (p : Fin 24), k0_off6 (pt c s) (BitVec.ofNat 32 (9216 * p.val)) = ![9216 * p.val + 288 * (2 * s.val + c.val)] := by
  decide +kernel
/-- That tile's neighbour indices are row `2 s + c`. -/
theorem off1_eq : ∀ (c : Fin 2) (s : Fin 16), k0_off1 (pt c s) = ![2 * s.val + c.val, 0] := by decide +kernel

/-- Element `x` of a piece is element `9216 p + 288 (2 s + c) + x` of the output. -/
theorem outP_emb (c : Fin 2) (s : Fin 16) (p : Fin 24) (x : S288.Idx) :
    (outP (pt c s) p).view.emb x = lin 221184 (9216 * p.val + 288 * (2 * s.val + c.val) + (x 0).val) := by
  have hx : (x 0).val < 288 := (x 0).isLt
  have hc := c.isLt
  have hs := s.isLt
  have hp := p.isLt
  refine idx1_ext ?_
  rw [lin_val _ _ (by omega)]
  show k0_off6 (pt c s) (BitVec.ofNat 32 (9216 * p.val)) 0 + 1 * (x 0).val = _
  rw [off6_eq]
  show 9216 * p.val + 288 * (2 * s.val + c.val) + 1 * (x 0).val = _
  omega

/-! ## The output, whole -/

/-- The output: element `9216 p + 288 w + j` is what the tile of number `w = 2 s + c` computes for plane `p`, place `j`. -/
def In.OUT (A : In F) : S221184.Idx → F .f32 := fun n =>
  A.out (pt ⟨(n 0).val % 9216 / 288 % 2, by omega⟩ ⟨(n 0).val % 9216 / 288 / 2, by omega⟩) ((n 0).val / 9216) (lin 288 ((n 0).val % 9216 % 288))

theorem OUT_at (A : In F) (c : Fin 2) (s : Fin 16) (p : Fin 24) (j : ℕ) (hj : j < 288) :
    A.OUT (lin 221184 (9216 * p.val + 288 * (2 * s.val + c.val) + j)) = A.out (pt c s) p.val (lin 288 j) := by
  have hc := c.isLt
  have hs := s.isLt
  have hp := p.isLt
  have h0 : (lin 221184 (9216 * p.val + 288 * (2 * s.val + c.val) + j) 0).val = 9216 * p.val + 288 * (2 * s.val + c.val) + j := lin_val _ _ (by omega)
  unfold In.OUT
  simp only [h0]
  have e1 : (9216 * p.val + 288 * (2 * s.val + c.val) + j) % 9216 / 288 % 2 = c.val := by omega
  have e2 : (9216 * p.val + 288 * (2 * s.val + c.val) + j) % 9216 / 288 / 2 = s.val := by omega
  have e3 : (9216 * p.val + 288 * (2 * s.val + c.val) + j) / 9216 = p.val := by omega
  have e4 : (9216 * p.val + 288 * (2 * s.val + c.val) + j) % 9216 % 288 = j := by omega
  simp only [e1, e2, e3, e4]

/-- Read through a tile's piece, it is that tile's outputs. -/
theorem OUT_read (A : In F) (c : Fin 2) (s : Fin 16) (p : Fin 24) :
    (outP (pt c s) p).view.read (Elt F) A.OUT = A.out (pt c s) p.val := by
  funext x
  show A.OUT ((outP (pt c s) p).view.emb x) = _
  rw [outP_emb, OUT_at A c s p _ (x 0).isLt]
  exact congrArg _ (lin_self 288 x)

/-! ## The pieces partition the output -/

abbrev outSet (t : Fin 2 × Fin 16 × Fin 24) : Finset S221184.Idx := (outP (pt t.1 t.2.1) t.2.2).view.set

theorem outSet_lt {t : Fin 2 × Fin 16 × Fin 24} {n : S221184.Idx} (h : n ∈ outSet t) :
    ∃ j < 288, (n 0).val = 9216 * t.2.2.val + 288 * (2 * t.2.1.val + t.1.val) + j := by
  obtain ⟨x, -, rfl⟩ := Finset.mem_map.mp h
  have hx : (x 0).val < 288 := (x 0).isLt
  have hc := t.1.isLt
  have hs := t.2.1.isLt
  have hp := t.2.2.isLt
  refine ⟨(x 0).val, hx, ?_⟩
  rw [show (outP (pt t.1 t.2.1) t.2.2).view.emb x = _ from outP_emb t.1 t.2.1 t.2.2 x, lin_val _ _ (by omega)]

theorem outSet_disjoint : ∀ t ∈ (Finset.univ : Finset (Fin 2 × Fin 16 × Fin 24)), ∀ t' ∈ (Finset.univ : Finset (Fin 2 × Fin 16 × Fin 24)), t ≠ t' → Disjoint (outSet t) (outSet t') := by
  intro t _ t' _ hne
  refine Finset.disjoint_left.mpr fun n hn hn' => hne ?_
  obtain ⟨j, hj, h⟩ := outSet_lt hn
  obtain ⟨j', hj', h'⟩ := outSet_lt hn'
  have hc := t.1.isLt
  have hs := t.2.1.isLt
  have hp := t.2.2.isLt
  have hc' := t'.1.isLt
  have hs' := t'.2.1.isLt
  have hp' := t'.2.2.isLt
  refine Prod.ext (Fin.ext ?_) (Prod.ext (Fin.ext ?_) (Fin.ext ?_)) <;> omega

/-- Every place of the output lies in one tile's piece for one plane. -/
theorem digits (k : ℕ) (hk : k < 221184) :
    ∃ (c : Fin 2) (s : Fin 16) (p : Fin 24) (j : ℕ), j < 288 ∧ k = 9216 * p.val + 288 * (2 * s.val + c.val) + j := by
  have h1 : k % 9216 / 288 % 2 < 2 := by omega
  have h2 : k % 9216 / 288 / 2 < 16 := by omega
  have h3 : k / 9216 < 24 := by omega
  refine ⟨⟨_, h1⟩, ⟨_, h2⟩, ⟨_, h3⟩, k % 9216 % 288, by omega, ?_⟩
  simp only
  omega

set_option maxRecDepth 16384 in
theorem outSet_cover : (Finset.univ : Finset (Fin 2 × Fin 16 × Fin 24)).biUnion outSet = Finset.univ := by
  refine Finset.eq_univ_of_forall fun n => ?_
  have hn : (n 0).val < 221184 := (n 0).isLt
  obtain ⟨c, s, p, j, hj, h⟩ := digits _ hn
  refine Finset.mem_biUnion.mpr ⟨(c, s, p), Finset.mem_univ _, Finset.mem_map.mpr ⟨lin 288 j, Finset.mem_univ _, ?_⟩⟩
  have hl : (lin 288 j 0).val = j := lin_val 288 j hj
  have hr : 9216 * p.val + 288 * (2 * s.val + c.val) + (lin 288 j 0).val = (n 0).val := by rw [hl, h]
  exact (outP_emb c s p (lin 288 j)).trans ((congrArg (lin 221184) hr).trans (lin_self 221184 n))

/-! ## The arrays -/

section Arrays

variable (d : Dev nD)

abbrev imgLoc : Loc nD τ sig := (SparseCore.T d).loc main_v0
abbrev gxLoc : Loc nD τ sig := (SparseCore.T d).loc main_v2
abbrev gyLoc : Loc nD τ sig := (SparseCore.T d).loc main_v4
abbrev parLoc : Loc nD τ sig := (SparseCore.T d).loc main_v20
abbrev knnLoc : Loc nD τ sig := (SparseCore.T d).loc main_v7
abbrev outLoc : Loc nD τ sig := (SparseCore.T d).loc main_v21

/-- The share of the tile on core `c`, subcore `s`: one of 32. -/
def shq (c : Fin 2) (s : Fin 16) : PosShare TreeShare := leaf 5 fullShare (finProdFinEquiv (m := 2) (n := 16) (c, s))

theorem pts_shares {ℓ : Loc nD τ sig} (f : Buf (Elt F) ℓ) :
    (ℓ ↦{fullShare} f : sProp 𝕄) = bigSep Finset.univ fun c : Fin 2 => bigSep Finset.univ fun s : Fin 16 => ℓ ↦{shq c s} f := by
  rw [pointsTo_leaves Finset.univ f 5 fullShare]
  refine (bigSep_univ_equiv (finProdFinEquiv (m := 2) (n := 16)) (fun i : Fin (2 * 16) => (ℓ ↦{leaf 5 fullShare i} f : sProp 𝕄))).trans ?_
  exact bigSep_univ_prod _

theorem pts_pieces (f : Buf (Elt F) (outLoc d)) :
    (outLoc d ↦{fullShare} f : sProp 𝕄) = bigSep Finset.univ fun c : Fin 2 => bigSep Finset.univ fun s : Fin 16 => bigSep Finset.univ fun p : Fin 24 =>
      ((outP (pt c s) p).view.loc (thr d (pt c s)) ↦[(outP (pt c s) p).view.set]{fullShare} f : sProp 𝕄) := by
  have h : (outLoc d ↦{fullShare} f : sProp 𝕄) = bigSep Finset.univ fun t : Fin 2 × Fin 16 × Fin 24 => outLoc d ↦[outSet t]{fullShare} f := by
    rw [← pointsTo_biUnion Finset.univ (ℓ := outLoc d) outSet outSet_disjoint, outSet_cover]
  rw [h]
  refine (bigSep_univ_prod _).trans (Idealize.SL.BI.bigSep_congr fun c _ => ?_)
  exact bigSep_univ_prod _

/-- The six arrays of the call, whole. -/
def whole (A : In F) (f : Buf (Elt F) (outLoc d)) : sProp 𝕄 :=
  iprop((imgLoc d ↦{fullShare} A.img) ∗ (gxLoc d ↦{fullShare} A.gx) ∗ (gyLoc d ↦{fullShare} A.gy)
    ∗ (parLoc d ↦{fullShare} A.par) ∗ (knnLoc d ↦{fullShare} A.knn) ∗ (outLoc d ↦{fullShare} f))

/-- Whole, they are what the 32 tiles are given. -/
theorem whole_eq (A : In F) (f : Buf (Elt F) (outLoc d)) :
    whole d A f = bigSep Finset.univ fun c : Fin 2 => bigSep Finset.univ fun s : Fin 16 => taskRes d (pt c s) A (shq c s) f := by
  unfold whole taskRes
  rw [pts_shares (ℓ := imgLoc d), pts_shares (ℓ := gxLoc d), pts_shares (ℓ := gyLoc d), pts_shares (ℓ := parLoc d), pts_shares (ℓ := knnLoc d), pts_pieces]
  simp only [← bigSep_sep']

end Arrays

end Cert.Proof.I

end
-- ==== Proof.ILaunch.lean ====
/-
  The launch: @main's operations, the call, the last reshape; what the run leaves in memory.
-/
module

public import proofs.«01_k».proof.Proof.ISplit
public import Idealize.ShloMosaic.Lib.StableHlo.Run
public import Idealize.ShloMosaic.Lib.Pipeline.Frame

@[expose] public section

noncomputable section

namespace Cert.Proof.I

open Cert.KernelIdeal Cert.KernelIdeal.Gen
open Idealize.ShloMosaic
open Idealize.ShloMosaic.StableHlo (seq seqK seq_bind_seqK after tcRefs held held_sub_split held_congr wp_seq devRef_mem_tcRefs)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

abbrev EH : Emb UH (MT nD τ sig (HIx 1) (Elt F) ℕ UU ℕ) := embL

/-- A TensorCore array as the device names it. -/
abbrev at' (b : Ref sig .tc) : DevRef τ sig := Proc.devRef .tc b

/-! ## @main's operations before the call, and the one after -/

/-- The operations that lay out the call's inputs. -/
def opsIn : List (HloOp τ sig (Elt F)) :=
   [StableHlo.reshape main_arg0 main_v0 (rfl : (.f32 : EltTy) = .f32) shapeCasts_S8x3x512x512_S6291456,
    StableHlo.unary main_arg3 main_v1 ((extractStridedSlice S82944x1 ![0, 0] · slices_S82944x2_S82944x1_0_0) : (⟨S82944x2, .f32⟩ : BufTy).Contents (Elt F) → (⟨S82944x1, .f32⟩ : BufTy).Contents (Elt F)),
    StableHlo.reshape main_v1 main_v2 (rfl : (.f32 : EltTy) = .f32) shapeCasts_S82944x1_S82944,
    StableHlo.unary main_arg3 main_v3 ((extractStridedSlice S82944x1 ![0, 1] · slices_S82944x2_S82944x1_0_1) : (⟨S82944x2, .f32⟩ : BufTy).Contents (Elt F) → (⟨S82944x1, .f32⟩ : BufTy).Contents (Elt F)),
    StableHlo.reshape main_v3 main_v4 (rfl : (.f32 : EltTy) = .f32) shapeCasts_S82944x1_S82944,
    StableHlo.reshape main_arg4 main_v5 (rfl : (.i32 : EltTy) = .i32) shapeCasts_S9216x9_S32x288x9,
    StableHlo.unary main_v5 main_v6 ((transpose S32x9x288 [0, 2, 1] · transposes_S32x288x9_S32x9x288_0_2_1) : (⟨S32x288x9, .i32⟩ : BufTy).Contents (Elt F) → (⟨S32x9x288, .i32⟩ : BufTy).Contents (Elt F)),
    StableHlo.reshape main_v6 main_v7 (rfl : (.i32 : EltTy) = .i32) shapeCasts_S32x9x288_S32x2592,
    StableHlo.unary main_arg2 main_v8 (sitofp .f32 : (⟨S_, .i32⟩ : BufTy).Contents (Elt F) → (⟨S_, .f32⟩ : BufTy).Contents (Elt F)),
    StableHlo.nullary main_cst (constant S_ .f32 0x40000000#32),
    StableHlo.binary main_v8 main_cst main_v9 (Host.divf : (⟨S_, .f32⟩ : BufTy).Contents (Elt F) → (⟨S_, .f32⟩ : BufTy).Contents (Elt F) → (⟨S_, .f32⟩ : BufTy).Contents (Elt F)),
    StableHlo.unary main_arg1 main_v10 ((extractStridedSlice S1 ![0] · slices_S2_S1_0) : (⟨S2, .f32⟩ : BufTy).Contents (Elt F) → (⟨S1, .f32⟩ : BufTy).Contents (Elt F)),
    StableHlo.reshape main_v10 main_v11 (rfl : (.f32 : EltTy) = .f32) shapeCasts_S1_S_,
    StableHlo.unary main_v11 main_v12 (broadcastInDim S16 ![] bcast_S_S16 : (⟨S_, .f32⟩ : BufTy).Contents (Elt F) → (⟨S16, .f32⟩ : BufTy).Contents (Elt F)),
    StableHlo.unary main_arg1 main_v13 ((extractStridedSlice S1 ![1] · slices_S2_S1_1) : (⟨S2, .f32⟩ : BufTy).Contents (Elt F) → (⟨S1, .f32⟩ : BufTy).Contents (Elt F)),
    StableHlo.reshape main_v13 main_v14 (rfl : (.f32 : EltTy) = .f32) shapeCasts_S1_S_,
    StableHlo.unary main_v14 main_v15 (broadcastInDim S16 ![] bcast_S_S16 : (⟨S_, .f32⟩ : BufTy).Contents (Elt F) → (⟨S16, .f32⟩ : BufTy).Contents (Elt F)),
    StableHlo.unary main_v9 main_v16 (broadcastInDim S16 ![] bcast_S_S16 : (⟨S_, .f32⟩ : BufTy).Contents (Elt F) → (⟨S16, .f32⟩ : BufTy).Contents (Elt F)),
    StableHlo.unary main_v12 main_v17 (broadcastInDim S1x16 ![1] bcast_S16_S1x16_1 : (⟨S16, .f32⟩ : BufTy).Contents (Elt F) → (⟨S1x16, .f32⟩ : BufTy).Contents (Elt F)),
    StableHlo.unary main_v15 main_v18 (broadcastInDim S1x16 ![1] bcast_S16_S1x16_1 : (⟨S16, .f32⟩ : BufTy).Contents (Elt F) → (⟨S1x16, .f32⟩ : BufTy).Contents (Elt F)),
    StableHlo.unary main_v16 main_v19 (broadcastInDim S1x16 ![1] bcast_S16_S1x16_1 : (⟨S16, .f32⟩ : BufTy).Contents (Elt F) → (⟨S1x16, .f32⟩ : BufTy).Contents (Elt F)),
    StableHlo.nary ![main_v17, main_v18, main_v19] main_v20 (fun u => (concatenate S3x16 0 [⟨S1x16, (u 0 : (⟨S1x16, .f32⟩ : BufTy).Contents (Elt F))⟩, ⟨S1x16, (u 1 : (⟨S1x16, .f32⟩ : BufTy).Contents (Elt F))⟩, ⟨S1x16, (u 2 : (⟨S1x16, .f32⟩ : BufTy).Contents (Elt F))⟩] concatenates_S1x16_S1x16_S1x16_S3x16_d0 : (⟨S3x16, .f32⟩ : BufTy).Contents (Elt F)))]
/-- The reshape of the call's output. -/
def opOut : HloOp τ sig (Elt F) := StableHlo.reshape main_v21 main_v22 (rfl : (.f32 : EltTy) = .f32) shapeCasts_S221184_S8x3x9216

theorem main_eq (d : Dev nD) :
    (main (F := F) d) = seq opsIn >>= fun _ => ((sc (F := F)).run d 0 >>= fun _ => seq [opOut]) := by
  rw [seq_bind_seqK]
  rfl

theorem opsIn_sub : ∀ op ∈ (opsIn (F := F)), op.bufs ⊆ tcRefs τ sig := by
  unfold opsIn
  simp only [List.forall_mem_cons, List.not_mem_nil, false_imp_iff, implies_true, and_true]
  simp only [StableHlo.reshape_bufs_sub, StableHlo.unary_bufs_sub, StableHlo.binary_bufs_sub, StableHlo.nullary_bufs_sub, StableHlo.nary_bufs_sub, and_self]
theorem opsIn_fresh : ∀ op ∈ (opsIn (F := F)), op.fresh = ∅ := by
  unfold opsIn
  simp only [List.forall_mem_cons, List.not_mem_nil, false_imp_iff, implies_true, and_true]
  refine ⟨rfl, rfl, rfl, rfl, rfl, rfl, rfl, rfl, rfl, rfl, rfl, rfl, rfl, rfl, rfl, rfl, rfl, rfl, rfl, rfl, rfl, rfl⟩

theorem opOut_sub : ∀ op ∈ [opOut (F := F)], op.bufs ⊆ tcRefs τ sig := by
  intro op h
  rw [List.mem_singleton.mp h]
  exact StableHlo.reshape_bufs_sub _ _ _ _ _ _
theorem opOut_fresh : ∀ op ∈ [opOut (F := F)], op.fresh = ∅ := by
  intro op h
  rw [List.mem_singleton.mp h]
  rfl

/-- Every TensorCore array outlives its operation. -/
theorem ucRefs_eq : (Pipeline.ucRefs τ sig) = tcRefs τ sig := by
  unfold Pipeline.ucRefs
  refine Finset.filter_true_of_mem fun b hb => ?_
  obtain ⟨r, -, rfl⟩ := Finset.mem_map.mp hb
  revert r; decide

/-! ## Memory before the call, after it, and at the end -/

variable (m : (ℓ : Loc nD τ sig) → Buf (Elt F) ℓ) (ρ : Dev nD → PrngReg)

def mem0 (d : Dev nD) : Valuation τ sig (Elt F) := fun b => m (d, b)
def mem1 (d : Dev nD) : Valuation τ sig (Elt F) := after opsIn (mem0 m d)

/-- The call's five input arrays. -/
def inOf (V : Valuation τ sig (Elt F)) : In F := ⟨V (at' main_v0), V (at' main_v2), V (at' main_v4), V (at' main_v20), V (at' main_v7)⟩

def inM (d : Dev nD) : In F := inOf (mem1 m d)
def mem2 (d : Dev nD) : Valuation τ sig (Elt F) := Function.update (mem1 m d) (at' main_v21) (inM m d).OUT
def mem3 (d : Dev nD) : Valuation τ sig (Elt F) := after [opOut] (mem2 m d)

/-- The six arrays the call touches. -/
def six : Finset (DevRef τ sig) := {at' main_v0, at' main_v2, at' main_v4, at' main_v20, at' main_v7, at' main_v21}

theorem six_sub : six ⊆ tcRefs τ sig := by
  intro b hb
  simp only [six, Finset.mem_insert, Finset.mem_singleton] at hb
  rcases hb with rfl | rfl | rfl | rfl | rfl | rfl <;> exact devRef_mem_tcRefs _

theorem held_six (d : Dev nD) (V : Valuation τ sig (Elt F)) :
    (held (SparseCore.T d) six V : sProp 𝕄) = whole d (inOf V) (V (at' main_v21)) := by
  unfold held six
  rw [SparseCore.bigSep_insert' (by decide), SparseCore.bigSep_insert' (by decide), SparseCore.bigSep_insert' (by decide),
    SparseCore.bigSep_insert' (by decide), SparseCore.bigSep_insert' (by decide), bigSep_singleton]
  rfl

theorem mem2_of_ne (d : Dev nD) {b : DevRef τ sig} (h : b ≠ at' main_v21) : mem2 m d b = mem1 m d b := Function.update_of_ne h _ _

theorem inOf_mem2 (d : Dev nD) : inOf (mem2 m d) = inM m d := by
  unfold inM inOf
  rw [mem2_of_ne m d (by decide), mem2_of_ne m d (by decide), mem2_of_ne m d (by decide), mem2_of_ne m d (by decide), mem2_of_ne m d (by decide)]

/-- Before the call: the six arrays, and the rest. -/
theorem held_before (d : Dev nD) :
    (held (SparseCore.T d) (tcRefs τ sig) (after opsIn (mem0 m d)) : sProp 𝕄)
      = iprop(whole d (inM m d) (mem1 m d (at' main_v21)) ∗ held (SparseCore.T d) (tcRefs τ sig \ six) (mem1 m d)) := by
  rw [show after opsIn (mem0 m d) = mem1 m d from rfl, held_sub_split (SparseCore.T d) six_sub, held_six]; rfl

/-- After the call: the same, the output written. -/
theorem held_after (d : Dev nD) :
    (held (SparseCore.T d) (tcRefs τ sig) (mem2 m d) : sProp 𝕄)
      = iprop(whole d (inM m d) (inM m d).OUT ∗ held (SparseCore.T d) (tcRefs τ sig \ six) (mem1 m d)) := by
  rw [held_sub_split (SparseCore.T d) six_sub, held_six, inOf_mem2,
    held_congr (SparseCore.T d) (S := tcRefs τ sig \ six) (V := mem2 m d) (V' := mem1 m d) fun b hb => mem2_of_ne m d fun e => (Finset.mem_sdiff.mp hb).2 (by rw [e]; decide)]
  rw [show mem2 m d (at' main_v21) = (inM m d).OUT from Function.update_self _ _ _]

/-! ## What the handshakes carry -/

section Deal

variable (A : Dev nD → In F) (f₀ : (d : Dev nD) → Buf (Elt F) (outLoc d))

/-- Every neighbour index is below the number of grid points. -/
def InRangeOf : Prop := ∀ d L x, ((A d).kn L x).toNat < 82944

theorem nCore_zero : (K (F := F)).nCore 0 = 2 := rfl
theorem nSub_zero : (K (F := F)).nSub 0 = 16 := rfl

/-- One task's arrays, its output pieces at `f`. -/
def job (d : Dev nD) (f : Buf (Elt F) (outLoc d)) (c : Fin 2) (s : Fin 16) : sProp 𝕄 := taskRes d (pt c s) (A d) (shq c s) f
/-- One core's. -/
def jobs (d : Dev nD) (f : Buf (Elt F) (outLoc d)) (c : Fin 2) : sProp 𝕄 := bigSep Finset.univ fun s : Fin 16 => job A d f c s

instance job_storable (d : Dev nD) (f : Buf (Elt F) (outLoc d)) (c : Fin 2) (s : Fin 16) : BI.Storable (upEmb : UEmb _ 𝕄) (job A d f c s) := by
  unfold job taskRes; infer_instance

instance jobs_storable (d : Dev nD) (f : Buf (Elt F) (outLoc d)) (c : Fin 2) : BI.Storable (upEmb : UEmb _ 𝕄) (jobs A d f c) := by
  unfold jobs; infer_instance

/-- Each core is handed its 16 tasks' arrays and hands them back; each task likewise, the output written. -/
def P : (K (F := F)).Pay (nD := nD) (Val := Elt F) (Name := ℕ) (U := UU) where
  st := fun q d c => match q with | 0 => jobs A d (f₀ d) (Fin.cast nCore_zero c)
  dn := fun q d c => match q with | 0 => jobs A d (A d).OUT (Fin.cast nCore_zero c)
  go := fun q d c i => match q with | 0 => job A d (f₀ d) (Fin.cast nCore_zero c) (Fin.cast nSub_zero i)
  td := fun q d c i => match q with | 0 => job A d (A d).OUT (Fin.cast nCore_zero c) (Fin.cast nSub_zero i)
  x := fun _ _ => iprop(emp)

instance P_storable : (P A f₀).IsStorable where
  st q d c := match q with | 0 => jobs_storable A d (f₀ d) (Fin.cast nCore_zero c)
  dn q d c := match q with | 0 => jobs_storable A d (A d).OUT (Fin.cast nCore_zero c)
  go q d c i := match q with | 0 => job_storable A d (f₀ d) (Fin.cast nCore_zero c) (Fin.cast nSub_zero i)
  td q d c i := match q with | 0 => job_storable A d (A d).OUT (Fin.cast nCore_zero c) (Fin.cast nSub_zero i)

/-- The payloads of the one call, in plain form. -/
theorem P_st (d : Dev nD) (c : Fin ((K (F := F)).nCore 0)) : (P A f₀).st 0 d c = jobs A d (f₀ d) (Fin.cast nCore_zero c) := by
  unfold P; dsimp only
theorem P_dn (d : Dev nD) (c : Fin ((K (F := F)).nCore 0)) : (P A f₀).dn 0 d c = jobs A d (A d).OUT (Fin.cast nCore_zero c) := by
  unfold P; dsimp only
theorem P_go (d : Dev nD) (c : Fin ((K (F := F)).nCore 0)) (i : Fin ((K (F := F)).nSub 0)) : (P A f₀).go 0 d c i = job A d (f₀ d) (Fin.cast nCore_zero c) (Fin.cast nSub_zero i) := by
  unfold P; dsimp only
theorem P_td (d : Dev nD) (c : Fin ((K (F := F)).nCore 0)) (i : Fin ((K (F := F)).nSub 0)) : (P A f₀).td 0 d c i = job A d (A d).OUT (Fin.cast nCore_zero c) (Fin.cast nSub_zero i) := by
  unfold P; dsimp only

/-! ## The task's obligation -/

theorem defs₀_vector (c : Fin τ.nSC) (s : Fin τ.nSub) :
    defs₀ (F := F) (.scVector c s) 0 () = SparseCore.onTile hcore0 hsub0 (fun c s => kern (coordsV c s)) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hr : InRangeOf A) : (K (F := F)).TileObl (D (F := F)) 𝒱 (P A f₀) v₀ 0 := by
  intro d c i O W hO _ _
  rw [P_go, P_td]
  unfold job
  simp only [show (P A f₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have h := tile_body d (coordsV ⟨_, hci.1⟩ ⟨_, hci.2⟩) (A d) (shq ⟨_, hci.1⟩ ⟨_, hci.2⟩) (f₀ d) (A d).OUT (hr d _) (fun p => OUT_read _ _ _ p) O W hO
  exact h.trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  Idealize.SL.BI.bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  Idealize.SL.BI.bigSep_congr fun _ _ => congrArg Φ (Fin.ext rfl)

theorem vecSplit : (K (F := F)).VecSplit' (P A f₀) 0 := by
  intro d c
  simp only [P_st, P_go, P_td, P_dn]
  rw [bigSep_tasks (F := F) (job A d (f₀ d) (Fin.cast nCore_zero c)), bigSep_tasks (F := F) (job A d (A d).OUT (Fin.cast nCore_zero c))]
  unfold jobs
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A f₀).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P A f₀).x q thr) = bigSep Finset.univ fun _ => iprop(emp) from
    Idealize.SL.BI.bigSep_congr fun _ _ => bigSep_univ_of_subsingleton (0 : Fin 1), bigSep_emp']
  iempintro

theorem whole_jobs (d : Dev nD) (f : Buf (Elt F) (outLoc d)) : (bigSep Finset.univ fun c : Fin 2 => jobs A d f c) = whole d (A d) f := by
  rw [whole_eq]
  exact Idealize.SL.BI.bigSep_congr fun c _ => Idealize.SL.BI.bigSep_congr fun s _ => rfl
theorem st0_eq (d : Dev nD) : (bigSep Finset.univ fun c : Fin ((K (F := F)).nCore 0) => (P A f₀).st 0 d c) = whole d (A d) (f₀ d) := by
  simp only [P_st]
  rw [bigSep_cores (fun c => jobs A d (f₀ d) c), whole_jobs]
theorem dn0_eq (d : Dev nD) : (bigSep Finset.univ fun c : Fin ((K (F := F)).nCore 0) => (P A f₀).dn 0 d c) = whole d (A d) (A d).OUT := by
  simp only [P_dn]
  rw [bigSep_cores (fun c => jobs A d (A d).OUT c), whole_jobs]

end Deal

/-! ## @main on the TensorCore -/

/-- The payloads at the launch memory's arrays. -/
abbrev PM : (K (F := F)).Pay (nD := nD) (Val := Elt F) (Name := ℕ) (U := UU) := P (inM m) (fun d => mem1 m d (at' main_v21))

/-- At the end every TensorCore array is as `mem3` says. -/
abbrev FIN (d : Dev nD) : sProp 𝕄 := held (SparseCore.T d) (tcRefs τ sig) (after [opOut] (mem2 m d))

theorem unscoped_held (d : Dev nD) : (unscopedBufs d (fun b => m ((SparseCore.T d).loc b)) : sProp 𝕄) = held (SparseCore.T d) (tcRefs τ sig) (mem0 m d) := by
  rw [← ucRefs_eq]
  exact Pipeline.unscopedBufs_held d (mem0 m d)

theorem hmain (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (wp_seq 𝒱 none Set.univ d (tcRefs τ sig) (fun _ => ((sc (F := F)).run d 0 >>= fun _ => seq [opOut])) opsIn opsIn_sub opsIn_fresh (mem0 m d)) $$ [Hb Hheld]
  · isplitl [Hb]; · iexact Hb
    iexact Hheld
  iintro ⟨Hb, Hheld⟩
  ihave Hh := (Entails.of_eq (held_before m d)) $$ Hheld
  icases Hh with ⟨Hw, Hrest⟩
  rw [wp_bind]
  iapply ((K (F := F)).wp_run (D (F := F)) 𝒱 (EH := EH) (P := PM m) κ d 0) $$ [Hst Hw Hrest Hb Hts]
  isplitr; · iexact Hctx
  isplitl [Hst]; · iexact Hst
  isplitl [Hw]
  · rw [st0_eq]; iexact Hw
  iintro ⟨Hst, Hdn⟩
  ihave Hdn' := (Entails.of_eq (dn0_eq (inM m) (fun d => mem1 m d (at' main_v21)) d)) $$ Hdn
  ihave Hheld := (Entails.of_eq (held_after m d).symm) $$ [Hdn' Hrest]
  · isplitl [Hdn']; · iexact Hdn'
    iexact Hrest
  rw [show (seq [opOut (F := F)] : Prog (TpuEff nD τ sig (Elt F) _ .tc) PUnit) = (seq [opOut] >>= fun _ => pure ⟨⟩) from (bind_pure _).symm]
  iapply (wp_seq 𝒱 none Set.univ d (tcRefs τ sig) (fun _ => pure ⟨⟩) [opOut] opOut_sub opOut_fresh (mem2 m d)) $$ [Hb Hheld]
  · isplitl [Hb]; · iexact Hb
    iexact Hheld
  iintro ⟨Hb, Hheld⟩
  rw [wp_pure]
  imodintro
  isplitl [Hst]; · iexact Hst
  isplitl [Hheld]; · iexact Hheld
  isplitl [Hb] <;> iassumption

/-- The device's arrays are as `mem3` says. -/
def fq (d : Dev nD) (s' : Phys nD τ sig (Elt F)) : Prop := ∀ b : Ref sig .tc, s'.mem.mem (d, at' b) = mem3 m d (at' b)

theorem hfin (d : Dev nD) (s' : Phys nD τ sig (Elt F)) : iprop(FIN m d ∗ SI s') ⊢ (⌜fq m d s'⌝ : sProp 𝕄) := by
  refine (Laws.forall_intro fun b : Ref sig .tc => ?_).trans Laws.pure_forall.2
  have h : FIN m d ⊢ (((d, at' b) : Loc nD τ sig) ↦{fullShare} mem3 m d (at' b) : sProp 𝕄) := bigSep_elim (devRef_mem_tcRefs b)
  iintro ⟨H, HSI⟩
  ihave Hp := h $$ H
  ihave H := (SI_pointsTo_agree (st := s') (ℓ := ((d, at' b) : Loc nD τ sig)) (I := Finset.univ) (q := fullShare) (f := mem3 m d (at' b))) $$ [HSI Hp]
  · isplitl [HSI] <;> iassumption
  icases H with %h1
  ipureintro; exact funext fun i => h1 i (Finset.mem_univ i)

/-- The run's end: memory as `mem3` says, every semaphore zero. -/
def QC : PUnit × MemSt nD τ sig (Elt F) → Prop := fun r => (∀ (d : Dev nD) (b : Ref sig .tc), r.2.mem (d, at' b) = mem3 m d (at' b)) ∧ r.2.sem = fun _ => 0

theorem run_main [∀ e, Nonempty (Elt F e)] (hr : InRangeOf (inM m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (inM m) (fun d => mem1 m d (at' main_v21)) hr)
    (fun q _ => match q with | 0 => SparseCore.Cfg.VecSplit.of_plain (vecSplit (inM m) (fun d => mem1 m d (at' main_v21))))
    m ρ main (fun _ => iprop(emp)) (FIN m) (u₀ (F := F)) (sep_elim_left.trans (hu₀ (inM m) (fun d => mem1 m d (at' main_v21)))) (hmain m ρ) (fq m) (hfin m) (QC m) (fun _ h hz => ⟨h, hz⟩)

end Cert.Proof.I

end
-- ==== Proof.IMem.lean ====
/-
  What the arrays hold before the call and at the end, in terms of the arguments; the frame claim.
-/
module

public import proofs.«01_k».proof.Proof.ILaunch
public import proofs.«01_k».proof.Proof.Gen.Pre_knn_in_range
public import proofs.«01_k».proof.Defs
public import Idealize.ShloMosaic.Lib.ReduceAll
public import Idealize.ShloMosaic.Lib.Pointwise.Reshape

@[expose] public section

noncomputable section

namespace Cert.Proof.I

open Cert.KernelIdeal Cert.KernelIdeal.Gen
open Idealize.ShloMosaic
open Idealize.ShloMosaic.StableHlo (seq seqK seq_bind_seqK after tcRefs held held_sub_split held_congr wp_seq devRef_mem_tcRefs)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (m : (ℓ : Loc nD τ sig) → Buf (Elt F) ℓ) (d : Dev nD)

/-- An argument the operations before the call do not write is as at the launch; so too at the end. -/
theorem mem1_arg0 : mem1 m d (at' main_arg0) = m (d, at' main_arg0) := by unfold mem1 opsIn; after_results; rfl
theorem mem1_arg1 : mem1 m d (at' main_arg1) = m (d, at' main_arg1) := by unfold mem1 opsIn; after_results; rfl
theorem mem1_arg2 : mem1 m d (at' main_arg2) = m (d, at' main_arg2) := by unfold mem1 opsIn; after_results; rfl
theorem mem1_arg3 : mem1 m d (at' main_arg3) = m (d, at' main_arg3) := by unfold mem1 opsIn; after_results; rfl
theorem mem1_arg4 : mem1 m d (at' main_arg4) = m (d, at' main_arg4) := by unfold mem1 opsIn; after_results; rfl

/-- An array other than the call's output and its reshape is at the end as before the call. -/
theorem mem3_of_ne (b : Ref sig .tc) (h1 : b ≠ main_v21) (h2 : b ≠ main_v22) : mem3 m d (at' b) = mem1 m d (at' b) := by
  unfold mem3 opOut
  rw [StableHlo.after_cons, StableHlo.after_nil, StableHlo.reshape_result_ne _ _ _ _ _ _ _ h2, mem2_of_ne m d (StableHlo.devRef_ne_of_ne h1)]

/-- The result is the call's output, regrouped. -/
theorem mem3_out : mem3 m d (at' main_v22) = shapeCast S8x3x9216 (inM m d).OUT shapeCasts_S221184_S8x3x9216 := by
  unfold mem3 opOut
  rw [StableHlo.after_cons, StableHlo.after_nil, StableHlo.reshape_result]
  rw [show mem2 m d (at' main_v21) = (inM m d).OUT from Function.update_self _ _ _]
  rfl

/-! ## The call's inputs -/

abbrev arg0 : S8x3x512x512.Idx → F .f32 := m (d, at' main_arg0)
abbrev arg1 : S2.Idx → F .f32 := m (d, at' main_arg1)
abbrev arg2 : S_.Idx → BitVec 32 := m (d, at' main_arg2)
abbrev arg3 : S82944x2.Idx → F .f32 := m (d, at' main_arg3)
abbrev arg4 : S9216x9.Idx → BitVec 32 := m (d, at' main_arg4)

theorem inM_img : (inM m d).img = shapeCast S6291456 (arg0 m d) shapeCasts_S8x3x512x512_S6291456 := by
  show mem1 m d (at' main_v0) = _
  unfold mem1 opsIn; after_results; rfl
theorem inM_gx : (inM m d).gx = shapeCast S82944 (extractStridedSlice S82944x1 ![0, 0] (arg3 m d) slices_S82944x2_S82944x1_0_0) shapeCasts_S82944x1_S82944 := by
  show mem1 m d (at' main_v2) = _
  unfold mem1 opsIn; after_results; rfl
theorem inM_gy : (inM m d).gy = shapeCast S82944 (extractStridedSlice S82944x1 ![0, 1] (arg3 m d) slices_S82944x2_S82944x1_0_1) shapeCasts_S82944x1_S82944 := by
  show mem1 m d (at' main_v4) = _
  unfold mem1 opsIn; after_results; rfl
theorem inM_knn : (inM m d).knn = shapeCast S32x2592 (transpose S32x9x288 [0, 2, 1] (shapeCast S32x288x9 (arg4 m d) shapeCasts_S9216x9_S32x288x9)
    transposes_S32x288x9_S32x9x288_0_2_1) shapeCasts_S32x9x288_S32x2592 := by
  show mem1 m d (at' main_v7) = _
  unfold mem1 opsIn; after_results; rfl

/-! ## The neighbour indices are in range -/

/-- If every element of the index argument is below 82944, so is every index a tile fetches. -/
theorem inRange_of (h : ∀ d i, (arg4 m d i).toNat < 82944) : InRangeOf (inM m) := by
  intro d L x
  unfold In.kn
  rw [inM_knn]
  exact h d _

/-- The precondition says the indices are in range. -/
theorem arg4_of_pre (x0 : FVec F S8x3x512x512 .f32) (x1 : FVec F S2 .f32) (x2 : IVec S_ 32) (x3 : FVec F S82944x2 .f32) (x4 : IVec S9216x9 32)
    (h : Cert.Pre_knn_in_range.fn (F := F) x0 x1 x2 x3 x4 = fun _ => 1#1) (i : S9216x9.Idx) : (x4 i).toNat < 82944 := by
  have key : ∀ v : BitVec 32, IntOp.andi (IntOp.cmpi .sge v 0#32) (IntOp.cmpi .slt v 82944#32) = 1#1 → v.toNat < 82944 := by
    intro v e
    have h1 : ∀ p q : Bool, IntOp.andi (BitVec.ofBool p) (BitVec.ofBool q) = 1#1 → p = true ∧ q = true := by decide
    obtain ⟨e1, e2⟩ := h1 _ _ e
    simp only [BitVec.sle_eq_decide, BitVec.slt_eq_decide, decide_eq_true_eq, BitVec.toInt_eq_toNat_cond, BitVec.toNat_ofNat, Nat.reducePow, Nat.reduceMod] at e1 e2
    omega
  have e := congrFun h (fun a => a.elim0)
  exact key _ (Host.reduce_andi_eq_one _ _ _ _ _ e i (funext fun a => a.elim0))

/-- The run's frame: the arguments unchanged, every semaphore zero. -/
theorem frame : Cert.quiescent_KernelIdeal := fun m g hpre =>
  (θ_run Cert.KernelIdeal.defs _ _).mono (fun _ h => ⟨fun c => ⟨(h.1 c main_arg0).trans ((mem3_of_ne m c _ (by decide) (by decide)).trans (mem1_arg0 m c)),
      (h.1 c main_arg1).trans ((mem3_of_ne m c _ (by decide) (by decide)).trans (mem1_arg1 m c)),
      (h.1 c main_arg2).trans ((mem3_of_ne m c _ (by decide) (by decide)).trans (mem1_arg2 m c)),
      (h.1 c main_arg3).trans ((mem3_of_ne m c _ (by decide) (by decide)).trans (mem1_arg3 m c)),
      (h.1 c main_arg4).trans ((mem3_of_ne m c _ (by decide) (by decide)).trans (mem1_arg4 m c))⟩, h.2⟩)
    (run_main (F := Idealize.ShloMosaic.Ideal) m g (inRange_of m fun d i => arg4_of_pre _ _ _ _ _ (hpre d) i))

end Cert.Proof.I

end
-- ==== Proof.VRound.lean ====
/-
  Rounding half to even over the extended reals: the kernel's truncate-and-correct rounding of `x + 1/2` and the host's
  `round` followed by a conversion to a 32-bit integer agree, or else both lie outside the image.
-/
module

public import proofs.«01_k».proof.Proof.ILoops
public import Idealize.ShloMosaic.Lib.IdealHost
public import Idealize.ShloMosaic.Lib.WordCmp

@[expose] public section

noncomputable section

namespace Cert.Proof.I

open Cert.KernelIdeal Cert.KernelIdeal.Gen
open Idealize.ShloMosaic Idealize.ShloMosaic.WordCmp

/-- One less than the truncation where the truncation exceeds the number. -/
def down (y : EReal) : BitVec 32 :=
  if y < (((Ideal.fptosi 32 y).toInt : ℝ) : EReal) then Ideal.fptosi 32 y - 1#32 else Ideal.fptosi 32 y

/-- The kernel's rounding of `y - 1/2`: the floor of `y`, less one where `y` is an odd integer. -/
def kround (y : EReal) : BitVec 32 :=
  if (((down y).toInt : ℝ) : EReal) = y ∧ down y &&& 1#32 = 1#32 then down y - 1#32 else down y

/-- The host's rounding, as a 32-bit integer. -/
def rround (x : EReal) : BitVec 32 := Ideal.fptosi 32 (Ideal.liftRound Ideal.roundHalfEven x)

/-- A coordinate inside the image. -/
def Inside (b : BitVec 32) : Prop := 0 ≤ b.toInt ∧ b.toInt ≤ 511

instance (b : BitVec 32) : Decidable (Inside b) := inferInstanceAs (Decidable (_ ∧ _))

/-- The word of one half. -/
theorem half_word : Ideal.ofBits .f32 0x3F000000#32 = ((1 / 2 : ℝ) : EReal) := by
  simp [Ideal.ofBits, Ideal.ieee, -EReal.coe_mul]; norm_num

theorem select_eq {α : Type} (c : BitVec 1) (a b : α) : Scalar.select c a b = if c = 1#1 then a else b := rfl

/-- The two corrections of a truncated value, as the kernel spells them. -/
theorem kround_spelled (y : EReal) :
    (let t := Ideal.fptosi 32 y
     let r := Scalar.select (Ideal.cmp .ogt ((t.toInt : ℝ) : EReal) y) (IntOp.subi t 1#32) t
     Scalar.select (IntOp.andi (Ideal.cmp .oeq ((r.toInt : ℝ) : EReal) y) (IntOp.cmpi .eq (IntOp.andi r 1#32) 1#32)) (IntOp.subi r 1#32) r)
      = kround y := by
  have hr : Scalar.select (Ideal.cmp .ogt (((Ideal.fptosi 32 y).toInt : ℝ) : EReal) y) (IntOp.subi (Ideal.fptosi 32 y) 1#32)
      (Ideal.fptosi 32 y) = down y := by
    unfold down Ideal.cmp
    simp only [select_eq, ofBool_decide_eq_one_iff]
    rfl
  simp only [hr]
  unfold kround Ideal.cmp
  simp only [select_eq, cmpi_eq_eq, andi_ofBool, ofBool_eq_one_iff, Bool.and_eq_true, decide_eq_true_eq]
  rfl

/-- The kernel's x coordinate. -/
theorem pxS_eq (u s g : EReal) : pxS (F := Idealize.ShloMosaic.Ideal) u s g = kround (u + g * s + ((1 / 2 : ℝ) : EReal)) := by
  rw [← kround_spelled, ← half_word]
  unfold pxS k0_pay3
  simp only [shapeCast_self]
  rfl

/-- The kernel's y coordinate. -/
theorem pyS_eq (v s g : EReal) : pyS (F := Idealize.ShloMosaic.Ideal) v s g = kround (v - g * s + ((1 / 2 : ℝ) : EReal)) := by
  rw [← kround_spelled, ← half_word]
  unfold pyS k0_pay4
  simp only [shapeCast_self]
  rfl

/-- A conversion, read back, is the truncation clamped to the word's range. -/
theorem fptosi_toInt (y : ℝ) : (Ideal.fptosi 32 (y : EReal)).toInt
    = max (-2147483648) (min 2147483647 (if 0 ≤ y then ⌊y⌋ else ⌈y⌉)) := by
  have e : Ideal.fptosi 32 (y : EReal) = BitVec.ofInt 32 (max (-2147483648) (min 2147483647 (if 0 ≤ y then ⌊y⌋ else ⌈y⌉))) := rfl
  rw [e]
  generalize (if 0 ≤ y then ⌊y⌋ else ⌈y⌉) = z
  rw [BitVec.toInt_ofInt]
  generalize hw : max (-2147483648 : ℤ) (min 2147483647 z) = w
  have h1 : -2147483648 ≤ w := by omega
  have h2 : w ≤ 2147483647 := by omega
  exact Int.bmod_eq_of_le (by norm_num; omega) (by norm_num; omega)

theorem sub_one_toInt (b : BitVec 32) (h : -2147483648 < b.toInt) : (b - 1#32).toInt = b.toInt - 1 := by
  have := b.toInt_lt
  rw [BitVec.toInt_sub]
  exact Int.bmod_eq_of_le (by norm_num; omega) (by norm_num at *; omega)

/-- A word that is far outside stays outside when up to two is taken from it. -/
theorem far_sub {b c : BitVec 32} (h : b.toInt ≤ -999 ∨ 1000 ≤ b.toInt)
    (hc : c = b ∨ c = b - 1#32 ∨ c = b - 1#32 - 1#32) : ¬ Inside c := by
  have hb := b.isLt
  have key : b.toNat ≤ 4294967295 - 998 ∧ 1000 ≤ b.toNat := by
    rw [BitVec.toInt_eq_toNat_cond] at h
    split at h <;> omega
  have hn : ∀ d : BitVec 32, Inside d → d.toNat ≤ 511 := by
    intro d hd
    unfold Inside at hd
    have := d.isLt
    rw [BitVec.toInt_eq_toNat_cond] at hd
    split at hd <;> omega
  intro hi
  have h5 := hn c hi
  rcases hc with rfl | rfl | rfl
  · omega
  · rw [BitVec.toNat_sub] at h5; simp at h5; omega
  · rw [BitVec.toNat_sub, BitVec.toNat_sub] at h5; simp at h5; omega

theorem kround_cases (y : EReal) : kround y = Ideal.fptosi 32 y ∨ kround y = Ideal.fptosi 32 y - 1#32 ∨ kround y = Ideal.fptosi 32 y - 1#32 - 1#32 := by
  unfold kround down
  split_ifs <;> simp

theorem even_iff_and (b : BitVec 32) : b &&& 1#32 = 1#32 ↔ ¬ Even b.toInt := by
  rw [Int.even_iff]
  have h : (b &&& 1#32).toNat = b.toNat % 2 := by rw [BitVec.toNat_and]; simp [Nat.and_one_is_mod]
  rw [← BitVec.toNat_inj, h, BitVec.toInt_eq_toNat_cond]
  simp
  split <;> omega

/-- Where nothing is clamped the corrected truncation is the floor. -/
theorem down_toInt (y : ℝ) (h1 : -2000 < y) (h2 : y < 2000) : (down (y : EReal)).toInt = ⌊y⌋ := by
  have f1 := Int.floor_le y
  have c1 := Int.le_ceil y
  have fa : ⌊y⌋ < 2000 := Int.floor_lt.2 (by exact_mod_cast h2)
  have fb : -2000 ≤ ⌊y⌋ := Int.le_floor.2 (by push_cast; linarith)
  have ca : ⌈y⌉ ≤ 2000 := Int.ceil_le.2 (by push_cast; linarith)
  have cb : -2000 < ⌈y⌉ := Int.lt_ceil.2 (by exact_mod_cast h1)
  have t := fptosi_toInt y
  unfold down
  simp only [EReal.coe_lt_coe_iff]
  by_cases h0 : 0 ≤ y
  · rw [if_pos h0] at t
    have t' : (Ideal.fptosi 32 (y : EReal)).toInt = ⌊y⌋ := by rw [t]; omega
    rw [t', if_neg (not_lt.2 f1), t']
  · rw [if_neg h0] at t
    have t' : (Ideal.fptosi 32 (y : EReal)).toInt = ⌈y⌉ := by rw [t]; omega
    rw [t']
    by_cases h : y < ((⌈y⌉ : ℤ) : ℝ)
    · rw [if_pos h, sub_one_toInt _ (by omega), t']
      have hc := Int.ceil_lt_add_one y
      have a : ⌈y⌉ - 1 ≤ ⌊y⌋ := Int.le_floor.2 (by push_cast; linarith)
      have b : ⌊y⌋ < ⌈y⌉ := by exact_mod_cast lt_of_le_of_lt f1 h
      omega
    · rw [if_neg h, t']
      have e : ((⌈y⌉ : ℤ) : ℝ) = y := le_antisymm (not_lt.1 h) c1
      rw [← e, Int.floor_intCast, Int.ceil_intCast]

/-- The kernel's rounding there. -/
theorem kround_toInt (y : ℝ) (h1 : -2000 < y) (h2 : y < 2000) :
    (kround (y : EReal)).toInt = if ((⌊y⌋ : ℤ) : ℝ) = y ∧ ¬ Even ⌊y⌋ then ⌊y⌋ - 1 else ⌊y⌋ := by
  have d := down_toInt y h1 h2
  have fb : -2000 ≤ ⌊y⌋ := Int.le_floor.2 (by push_cast; linarith)
  unfold kround
  simp only [even_iff_and, EReal.coe_eq_coe_iff, d]
  split_ifs with h
  · rw [sub_one_toInt _ (by omega), d]
  · exact d

/-- Half to even, from the floor of the number plus one half. -/
theorem roundHalfEven_eq (x : ℝ) : Ideal.roundHalfEven x
    = if ((⌊x + 1 / 2⌋ : ℤ) : ℝ) = x + 1 / 2 ∧ ¬ Even ⌊x + 1 / 2⌋ then ⌊x + 1 / 2⌋ - 1 else ⌊x + 1 / 2⌋ := by
  have f1 := Int.floor_le x
  have f2 := Int.lt_floor_add_one x
  unfold Ideal.roundHalfEven
  simp only
  by_cases a : x - (⌊x⌋ : ℤ) < 1 / 2
  · have e : ⌊x + 1 / 2⌋ = ⌊x⌋ := Int.floor_eq_iff.2 ⟨by linarith, by linarith⟩
    rw [if_pos a, e, if_neg]
    rintro ⟨h, -⟩
    linarith
  rw [if_neg a]
  have e : ⌊x + 1 / 2⌋ = ⌊x⌋ + 1 := Int.floor_eq_iff.2 ⟨by push_cast; linarith, by push_cast; linarith⟩
  rw [e]
  by_cases b : 1 / 2 < x - (⌊x⌋ : ℤ)
  · rw [if_pos b, if_neg]
    rintro ⟨h, -⟩
    push_cast at h
    linarith
  rw [if_neg b]
  have h : (((⌊x⌋ + 1 : ℤ)) : ℝ) = x + 1 / 2 := by push_cast; linarith
  have ev : ¬ Even (⌊x⌋ + 1) ↔ Even ⌊x⌋ := by rw [Int.even_add_one]; simp
  simp only [ev]
  split_ifs with p q q
  · omega
  · exact absurd ⟨h, p⟩ q
  · exact absurd q.2 p
  · rfl

/-- The host's rounding, as an integer clamped to the word's range. -/
theorem rround_toInt (x : ℝ) : (rround (x : EReal)).toInt = max (-2147483648) (min 2147483647 (Ideal.roundHalfEven x)) := by
  have e : rround (x : EReal) = Ideal.fptosi 32 (((Ideal.roundHalfEven x : ℤ) : ℝ) : EReal) := rfl
  rw [e, fptosi_toInt, Int.floor_intCast, Int.ceil_intCast, ite_self]

theorem roundHalfEven_near (x : ℝ) : ⌊x⌋ ≤ Ideal.roundHalfEven x ∧ Ideal.roundHalfEven x ≤ ⌊x⌋ + 1 := by
  unfold Ideal.roundHalfEven
  simp only
  split_ifs <;> omega

/-- Within a range where nothing is clamped the two roundings agree. -/
theorem near (x : ℝ) (h1 : -1001 < x) (h2 : x < 1001) :
    kround ((x : EReal) + ((1 / 2 : ℝ) : EReal)) = rround (x : EReal) := by
  rw [← EReal.coe_add]
  apply BitVec.eq_of_toInt_eq
  rw [kround_toInt _ (by linarith) (by linarith), rround_toInt, ← roundHalfEven_eq]
  have fa : ⌊x⌋ < 1001 := Int.floor_lt.2 (by exact_mod_cast h2)
  have fb : -1001 ≤ ⌊x⌋ := Int.le_floor.2 (by push_cast; linarith)
  have := roundHalfEven_near x
  omega

/-- The two roundings agree or are both outside the image. -/
theorem round_agree (x : EReal) :
    kround (x + ((1 / 2 : ℝ) : EReal)) = rround x
      ∨ (¬ Inside (kround (x + ((1 / 2 : ℝ) : EReal))) ∧ ¬ Inside (rround x)) := by
  induction x using EReal.rec with
  | bot =>
    right
    refine ⟨?_, by decide⟩
    rw [EReal.bot_add]
    exact far_sub (b := Ideal.fptosi 32 ⊥) (by decide) (kround_cases ⊥)
  | top =>
    right
    refine ⟨?_, by decide⟩
    rw [EReal.top_add_coe]
    exact far_sub (b := Ideal.fptosi 32 ⊤) (by decide) (kround_cases ⊤)
  | coe x =>
    by_cases h1 : x ≤ -1001
    · right
      rw [← EReal.coe_add]
      have fl : ⌊x⌋ ≤ -1001 := by exact_mod_cast (Int.floor_le x).trans h1
      refine ⟨far_sub (.inl ?_) (kround_cases _), ?_⟩
      · rw [fptosi_toInt, if_neg (by linarith)]
        have : ⌈x + 1 / 2⌉ ≤ -1000 := Int.ceil_le.2 (by push_cast; linarith)
        omega
      · have := roundHalfEven_near x
        unfold Inside
        rw [rround_toInt]
        omega
    by_cases h2 : 1001 ≤ x
    · right
      rw [← EReal.coe_add]
      have fl : 1001 ≤ ⌊x⌋ := Int.le_floor.2 (by exact_mod_cast h2)
      refine ⟨far_sub (.inr ?_) (kround_cases _), ?_⟩
      · rw [fptosi_toInt, if_pos (by linarith)]
        have : 1001 ≤ ⌊x + 1 / 2⌋ := Int.le_floor.2 (by push_cast; linarith)
        omega
      · have := roundHalfEven_near x
        unfold Inside
        rw [rround_toInt]
        omega
    exact .inl (near x (not_le.1 h1) (not_le.1 h2))

end Cert.Proof.I

end
-- ==== Proof.VTake.lean ====
/-
  A gather along the last axis of a rank-3 array, one column per start index, read at an index.
-/
module

public import Idealize.ShloMosaic.Lib.ValueIdxCore
public import Idealize.ShloMosaic.Lib.WordCmp
public import Idealize.ShloMosaic.Lib.ReduceAll
public import Idealize.ShloMosaic.Lib.Pointwise.ShapeOpsCore

@[expose] public section

namespace Cert.Proof.Take

open Idealize.ShloMosaic

variable {α : Type} {A B N M w : Nat}

/-- The dimension numbers of a take along the last axis of an `A × B × N` array, at `M` start indices. -/
abbrev lastDims (A B N M : Nat)
    (wf : GatherDims.WF ⟨3, ![A, B, N]⟩ ⟨2, ![M, 1]⟩ ⟨3, ![A, B, M]⟩ [0, 1] [2] [] [2] [] 1 ![A, B, 1]) :
    GatherDims ⟨3, ![A, B, N]⟩ ⟨2, ![M, 1]⟩ ⟨3, ![A, B, M]⟩ where
  offsetDims := [0, 1]
  collapsedSliceDims := [2]
  operandBatchingDims := []
  startIndicesBatchingDims := []
  startIndexMap := [2]
  indexVectorDim := 1
  sliceSizes := ![A, B, 1]
  wf := wf

/-- Element `(a, b, q)` of the take is element `(a, b, k)` of the array, where `k` is start index `q`, in range. -/
theorem gather_last (wf : GatherDims.WF ⟨3, ![A, B, N]⟩ ⟨2, ![M, 1]⟩ ⟨3, ![A, B, M]⟩ [0, 1] [2] [] [2] [] 1 ![A, B, 1])
    (x : (⟨3, ![A, B, N]⟩ : Shape).Idx → α) (idx : IVec ⟨2, ![M, 1]⟩ 32) (a : Fin A) (b : Fin B) (q : Fin M) (k : Fin N)
    (hN : N < 2 ^ 31) (hk : (idx (ix2 q (0 : Fin 1))).toNat = k.val) :
    Host.gather (lastDims A B N M wf) x idx (ix3 a b q) = x (ix3 a b k) := by
  unfold Host.gather
  refine congrArg x (funext fun d => Fin.ext ?_)
  show (lastDims A B N M wf).start (ix3 a b q) idx d + (lastDims A B N M wf).batchCoord (ix3 a b q) d
      + (lastDims A B N M wf).offCoord (ix3 a b q) d = _
  rw [GatherDims.batchCoord_eq_zero _ _ _ List.not_mem_nil, Nat.add_zero]
  match d with
  | ⟨0, _⟩ =>
    have hs : (lastDims A B N M wf).start (ix3 a b q) idx 0 = 0 := by
      unfold GatherDims.start
      rw [dif_neg (show (0 : Fin 3) ∉ [2] by decide)]
    exact (congrArg (· + _) hs).trans ((Nat.zero_add _).trans rfl)
  | ⟨1, _⟩ =>
    have hs : (lastDims A B N M wf).start (ix3 a b q) idx 1 = 0 := by
      unfold GatherDims.start
      rw [dif_neg (show (1 : Fin 3) ∉ [2] by decide)]
    exact (congrArg (· + _) hs).trans ((Nat.zero_add _).trans rfl)
  | ⟨2, _⟩ =>
    have ho : (lastDims A B N M wf).offCoord (ix3 a b q) 2 = 0 :=
      GatherDims.offCoord_eq_zero _ _ _ (fun h => ((GatherDims.mem_sKept _ _).mp h).1 (List.mem_singleton.mpr rfl))
    refine (congrArg (_ + ·) ho).trans ((Nat.add_zero _).trans ?_)
    show (lastDims A B N M wf).start (ix3 a b q) idx 2 = k.val
    unfold GatherDims.start
    rw [dif_pos (show (2 : Fin 3) ∈ (lastDims A B N M wf).startIndexMap from List.mem_singleton.mpr rfl)]
    have hsi : (lastDims A B N M wf).siIdx (ix3 a b q) ⟨List.idxOf (2 : Fin 3) (lastDims A B N M wf).startIndexMap,
        List.idxOf_lt_length_iff.2 (List.mem_singleton.mpr rfl)⟩ = ix2 q (0 : Fin 1) := by
      funext e; refine Fin.ext ?_
      match e with
      | ⟨0, _⟩ => rfl
      | ⟨1, _⟩ => rfl
    rw [hsi]
    have hkl := k.isLt
    have hi : (idx (ix2 q (0 : Fin 1))).toInt = k.val := by
      rw [WordCmp.toInt_eq_toNat_of_lt_half (by rw [hk]; omega), hk]
    show min ((idx (ix2 q (0 : Fin 1))).toInt.toNat) (N - 1) = k.val
    rw [hi]
    omega

end Cert.Proof.Take
-- ==== Proof.VRef.lean ====
/-
  The reference's result, read at an index: the mean over a site's nine neighbours of the sampled image, where a sample
  outside the image counts zero.
-/
module

public import proofs.«01_k».proof.Proof.VRound
public import proofs.«01_k».proof.Proof.VTake
public import proofs.«01_k».proof.Proof.Gen.ReferenceIdeal
public import proofs.«01_k».proof.Proof.Gen.ReferenceIdeal.Run
public import Idealize.ShloMosaic.Lib.Pointwise.Reshape
public import Idealize.ShloMosaic.Lib.Pointwise.Reduce
public import Idealize.ShloMosaic.Lib.Pipeline.Value

@[expose] public section

noncomputable section

namespace Cert.Proof.R

open Cert.ReferenceIdeal Cert.ReferenceIdeal.Gen
open Idealize.ShloMosaic Idealize.ShloMosaic.WordCmp
open Cert.Proof.I (Inside rround kround faS)
open Cert.Proof.Take (lastDims gather_last)

local notation "𝔼" => Idealize.ShloMosaic.Ideal

variable (a0 : FVec 𝔼 S8x3x512x512 .f32) (a1 : FVec 𝔼 S2 .f32) (a2 : IVec S_ 32) (a3 : FVec 𝔼 S82944x2 .f32) (a4 : IVec S9216x9 32)

/-! ## The stages of the reference, as printed -/

/-- A scalar laid along the sampling sites. -/
abbrev all {α : Type} (x : S_.Idx → α) : S82944.Idx → α := broadcastInDim S82944 ![] bcast_S_S82944 x

/-- The scale, half the fixation size, at every site. -/
def rSZ : FVec 𝔼 S82944 .f32 := all (id (Host.divf (sitofp .f32 a2) (constant S_ .f32 0x40000000#32)))
/-- The sampled positions. -/
def rPX : FVec 𝔼 S82944 .f32 := addf (all (shapeCast _ (extractStridedSlice S1 ![0] a1 slices_S2_S1_0) shapeCasts_S1_S_))
  (mulf (shapeCast _ (extractStridedSlice S82944x1 ![0, 0] a3 slices_S82944x2_S82944x1_0_0) shapeCasts_S82944x1_S82944) (rSZ a2))
def rPY : FVec 𝔼 S82944 .f32 := addf (all (shapeCast _ (extractStridedSlice S1 ![1] a1 slices_S2_S1_1) shapeCasts_S1_S_))
  (mulf (Host.negf (shapeCast _ (extractStridedSlice S82944x1 ![0, 1] a3 slices_S82944x2_S82944x1_0_1) shapeCasts_S82944x1_S82944)) (rSZ a2))
/-- The sampled positions rounded to pixels. -/
def rIX : IVec S82944 32 := fptosi 32 (Host.roundeven (rPX a1 a2 a3))
def rIY : IVec S82944 32 := fptosi 32 (Host.roundeven (rPY a1 a2 a3))
/-- A coordinate clipped into the image. -/
def rClip (x : IVec S82944 32) : IVec S82944 32 := minsi (all (id (constantI S_ 32 511#32))) (maxsi (all (id (constantI S_ 32 0#32))) x)
/-- The flat address of the clipped pixel. -/
def rAD : IVec S82944 32 := addi (muli (rClip (rIY a1 a2 a3)) (all (constantI S_ 32 512#32))) (rClip (rIX a1 a2 a3))
/-- One where the pixel lies in the image, else zero. -/
def rVD : FVec 𝔼 S82944 .f32 := uitofp .f32 (andi (andi (andi (cmpi .sge (rIX a1 a2 a3) (all (constantI S_ 32 0#32)))
  (cmpi .sle (rIX a1 a2 a3) (all (constantI S_ 32 511#32)))) (cmpi .sge (rIY a1 a2 a3) (all (constantI S_ 32 0#32))))
  (cmpi .sle (rIY a1 a2 a3) (all (constantI S_ 32 511#32))))
/-- A take's start indices: the indices as a column, a negative one counted from the end. -/
def rCol (n : BitVec 32) (x : IVec S82944 32) : IVec S82944x1 32 :=
  broadcastInDim S82944x1 ![0] bcast_S82944_S82944x1_0 (select (cmpi .slt x (all (constantI S_ 32 0#32))) (addi x (all (constantI S_ 32 n))) x)
/-- Which start indices lie in range. -/
def rOk (n1 : BitVec 32) (B : IVec S82944x1 32) : IVec S8x3x82944 1 :=
  broadcastInDim S8x3x82944 ![2] bcast_S82944_S8x3x82944_2 (Host.reduce IntOp.andi
    (andi (cmpi .sge B (broadcastInDim S82944x1 ![] bcast_S_S82944x1 (constantI S_ 32 0#32)))
      (cmpi .sle B (broadcastInDim S82944x1 ![0, 1] bcast_S1x1_S82944x1_0_1 (broadcastInDim S1x1 ![1] bcast_S1_S1x1_1 (constantI S1 32 n1)))))
    (constantI S_ 1 1#1) reducesTo_S82944x1_S82944_d1 h_S_)
/-- A take's result, a fill where the start index is out of range. -/
def rFill (ok : IVec S8x3x82944 1) (g : FVec 𝔼 S8x3x82944 .f32) : FVec 𝔼 S8x3x82944 .f32 :=
  select ok g (broadcastInDim S8x3x82944 ![] bcast_S_S8x3x82944 (constant S_ .f32 0x7FC00000#32))
/-- The image, its rows joined. -/
def rImg : FVec 𝔼 S8x3x262144 .f32 := shapeCast _ a0 shapeCasts_S8x3x512x512_S8x3x262144
/-- The samples: the image at every site. -/
def rSmp : FVec 𝔼 S8x3x82944 .f32 :=
  mulf (rFill (rOk 262143#32 (rCol 262144#32 (rAD a1 a2 a3)))
      (Host.gather gather_S8x3x262144_S82944x1_S8x3x82944_01_2_n_n_2_1_831 (rImg a0) (rCol 262144#32 (rAD a1 a2 a3))))
    (broadcastInDim S8x3x82944 ![0, 1, 2] bcast_S1x1x82944_S8x3x82944_0_1_2
      (broadcastInDim S1x1x82944 ![2] bcast_S82944_S1x1x82944_2 (rVD a1 a2 a3)))
/-- The neighbours, flat. -/
def rKN : IVec S82944 32 := shapeCast _ a4 shapeCasts_S9216x9_S82944
/-- The samples at the neighbours. -/
def rNb : FVec 𝔼 S8x3x82944 .f32 :=
  rFill (rOk 82943#32 (rCol 82944#32 (rKN a4)))
    (Host.gather gather_S8x3x82944_S82944x1_S8x3x82944_01_2_n_n_2_1_831 (rSmp a0 a1 a2 a3) (rCol 82944#32 (rKN a4)))
/-- The mean over the neighbours. -/
def rRes : FVec 𝔼 S8x3x9216 .f32 :=
  Host.divf (Host.reduceAdd (shapeCast _ (rNb a0 a1 a2 a3 a4) shapeCasts_S8x3x82944_S8x3x9216x9) (constant S_ .f32 0x00000000#32)
      reducesTo_S8x3x9216x9_S8x3x9216_d3 h_S_)
    (broadcastInDim S8x3x9216 ![] bcast_S_S8x3x9216 (constant S_ .f32 0x41100000#32))

/-- The run's result is these stages composed. -/
theorem res_eq (m : (ℓ : Loc nD τ sig) → Buf (Elt 𝔼) ℓ) (c : Dev nD) :
    Cert.ReferenceIdeal.Value.res_main_v54 (F := 𝔼) m c
      = rRes (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  unfold Cert.ReferenceIdeal.Value.res_main_v54
  simp only [rRes, rNb, rKN, rSmp, rImg, rFill, rOk, rCol, rVD, rAD, rClip, rIX, rIY, rPX, rPY, rSZ, all]

/-! ## The stages read at an index -/

/-- The scale. -/
def sc : EReal := Host.divf (sitofp .f32 a2) (constant (F := 𝔼) S_ .f32 0x40000000#32) ix0
/-- Site `q`'s position. -/
def hx (q : Fin 82944) : EReal := a1 (ix1 0) + a3 (ix2 q 0) * sc a2
def hy (q : Fin 82944) : EReal := a1 (ix1 1) + -a3 (ix2 q 1) * sc a2
/-- The flat address of site `q`'s pixel, clipped into the image. -/
def ad (q : Fin 82944) : BitVec 32 := faS (rround (hx a1 a2 a3 q)) (rround (hy a1 a2 a3 q))
/-- Whether site `q`'s pixel lies in the image. -/
abbrev In (q : Fin 82944) : Prop := Inside (rround (hx a1 a2 a3 q)) ∧ Inside (rround (hy a1 a2 a3 q))

/-- A scalar laid along the sites, at a site. -/
theorem all_apply {α : Type} (x : S_.Idx → α) (j : S82944.Idx) : all x j = x ix0 :=
  broadcastInDim_apply _ _ _ _ _ (fun a => a.elim0)

theorem fix_apply (o : ℕ) (k : Fin 2) (e : o = k.val) (h : S2.Slices ![o] S1) :
    shapeCast S_ (extractStridedSlice S1 ![o] a1 h) shapeCasts_S1_S_ ix0 = a1 (ix1 k) := by
  subst e
  rw [shapeCast_apply _ _ _ (ix1 (0 : Fin 1)) (by rw [Shape.rowMajor_val_one, rowMajor_val0]; rfl)]
  exact extractStridedSlice_apply _ _ _ _ _ (fun a => by match a with | ⟨0, _⟩ => rfl)

theorem grid_apply (o : ℕ) (k : Fin 2) (e : o = k.val) (h : S82944x2.Slices ![0, o] S82944x1) (q : Fin 82944) :
    shapeCast S82944 (extractStridedSlice S82944x1 ![0, o] a3 h) shapeCasts_S82944x1_S82944 (ix1 q) = a3 (ix2 q k) := by
  subst e
  rw [shapeCast_apply _ _ _ (ix2 q (0 : Fin 1)) (by rw [Shape.rowMajor_val_one, Shape.rowMajor_val_two]; show q.val * 1 + 0 = q.val; omega)]
  exact extractStridedSlice_apply _ _ _ _ _ (fun a => by
    match a with
    | ⟨0, _⟩ => exact (Nat.zero_add _).symm
    | ⟨1, _⟩ => rfl)

theorem rPX_apply (q : Fin 82944) : rPX a1 a2 a3 (ix1 q) = hx a1 a2 a3 q := by
  unfold rPX rSZ hx sc
  show all _ _ + shapeCast S82944 _ _ _ * all _ _ = _
  rw [all_apply, all_apply, fix_apply a1 0 0 rfl, grid_apply a3 0 0 rfl]
  rfl

theorem rPY_apply (q : Fin 82944) : rPY a1 a2 a3 (ix1 q) = hy a1 a2 a3 q := by
  unfold rPY rSZ hy sc
  show all _ _ + -(shapeCast S82944 _ _ _) * all _ _ = _
  rw [all_apply, all_apply, fix_apply a1 1 1 rfl, grid_apply a3 1 1 rfl]
  rfl

theorem rIX_apply (q : Fin 82944) : rIX a1 a2 a3 (ix1 q) = rround (hx a1 a2 a3 q) := by
  rw [← rPX_apply]; rfl
theorem rIY_apply (q : Fin 82944) : rIY a1 a2 a3 (ix1 q) = rround (hy a1 a2 a3 q) := by
  rw [← rPY_apply]; rfl

theorem rAD_apply (q : Fin 82944) : rAD a1 a2 a3 (ix1 q) = ad a1 a2 a3 q := by
  unfold ad
  rw [← rIX_apply, ← rIY_apply]
  unfold faS Cert.KernelIdeal.Gen.k0_pay32 rAD rClip
  simp only [shapeCast_self]
  rfl

theorem rVD_apply (q : Fin 82944) : rVD a1 a2 a3 (ix1 q) = if In a1 a2 a3 q then 1 else 0 := by
  have key : ∀ x y : BitVec 32, (((IntOp.andi (IntOp.andi (IntOp.andi (IntOp.cmpi .sge x 0#32) (IntOp.cmpi .sle x 511#32))
      (IntOp.cmpi .sge y 0#32)) (IntOp.cmpi .sle y 511#32)).toNat : ℝ) : EReal) = if Inside x ∧ Inside y then 1 else 0 := by
    intro x y
    simp only [cmpi_sge_eq, cmpi_sle_eq, andi_ofBool]
    have e : ∀ b : Bool, (((BitVec.ofBool b).toNat : ℝ) : EReal) = if b = true then 1 else 0 := by
      intro b; cases b <;> simp
    rw [e]
    refine if_congr ?_ rfl rfl
    simp only [Bool.and_eq_true, decide_eq_true_eq, Inside]
    exact ⟨fun h => ⟨⟨h.1.1.1, h.1.1.2⟩, h.1.2, h.2⟩, fun h => ⟨⟨⟨h.1.1, h.1.2⟩, h.2.1⟩, h.2.2⟩⟩
  rw [← key, ← rIX_apply, ← rIY_apply]
  rfl

/-- A start index below `n ≤ 2³¹` is used as it is. -/
theorem rCol_apply (n : BitVec 32) (x : IVec S82944 32) (q : Fin 82944) (h : (x (ix1 q)).toNat < 2 ^ 31) :
    rCol n x (ix2 q (0 : Fin 1)) = x (ix1 q) := by
  unfold rCol
  rw [broadcastInDim_apply _ _ _ _ (ix1 q) (fun a => by match a with | ⟨0, _⟩ => rfl)]
  show Scalar.select (IntOp.cmpi .slt (x (ix1 q)) (all _ _)) _ _ = _
  rw [all_apply]
  rw [show constantI S_ 32 0#32 ix0 = 0#32 from rfl, cmpi_slt_zero]
  rw [show decide (2 ^ (32 - 1) ≤ (x (ix1 q)).toNat) = false from decide_eq_false (by omega)]
  rfl

/-- Start indices in range pass the range test. -/
theorem rOk_apply (n1 : BitVec 32) (B : IVec S82944x1 32) (j : S8x3x82944.Idx) (hn : n1.toNat < 2 ^ 31)
    (h : ∀ q : Fin 82944, (B (ix2 q (0 : Fin 1))).toNat ≤ n1.toNat) : rOk n1 B j = 1#1 := by
  unfold rOk
  refine Host.reduce_andi_one _ _ _ _ _ rfl fun i => ?_
  have hi : i = ix2 (i 0) (0 : Fin 1) := by
    funext a
    match a with
    | ⟨0, _⟩ => rfl
    | ⟨1, _⟩ => exact Fin.ext (Nat.lt_one_iff.1 (i 1).isLt)
  have hb : (B i).toNat ≤ n1.toNat := (congrArg (fun y => (B y).toNat) hi).trans_le (h (i 0))
  have e1 : broadcastInDim S82944x1 ![] bcast_S_S82944x1 (constantI S_ 32 0#32) i = 0#32 := rfl
  have e2 : broadcastInDim S82944x1 ![0, 1] bcast_S1x1_S82944x1_0_1 (broadcastInDim S1x1 ![1] bcast_S1_S1x1_1 (constantI S1 32 n1)) i = n1 := rfl
  show IntOp.andi (IntOp.cmpi .sge (B i) _) (IntOp.cmpi .sle (B i) _) = 1#1
  rw [e1, e2, cmpi_sge_zero, cmpi_sle_of_lt (by omega) (by omega), andi_ofBool,
    show decide ((B i).toNat < 2 ^ (32 - 1)) = true from decide_eq_true (by omega),
    show decide ((B i).toNat ≤ n1.toNat) = true from decide_eq_true hb]
  rfl

/-- A take along the last axis whose indices are all in range. -/
theorem take_apply {N : ℕ} (wf : GatherDims.WF ⟨3, ![8, 3, N]⟩ S82944x1 S8x3x82944 [0, 1] [2] [] [2] [] 1 ![8, 3, 1])
    (g : FVec 𝔼 ⟨3, ![8, 3, N]⟩ .f32) (n n1 : BitVec 32) (x : IVec S82944 32) (hn : n1.toNat + 1 = N) (hN : N < 2 ^ 31)
    (hx : ∀ q : Fin 82944, (x (ix1 q)).toNat < N) (a : Fin 8) (b : Fin 3) (q : Fin 82944) :
    rFill (rOk n1 (rCol n x)) (Host.gather (lastDims 8 3 N 82944 wf) g (rCol n x)) (ix3 a b q) = g (ix3 a b ⟨(x (ix1 q)).toNat, hx q⟩) := by
  have hc : ∀ q : Fin 82944, rCol n x (ix2 q (0 : Fin 1)) = x (ix1 q) := fun q => rCol_apply n x q (lt_trans (hx q) hN)
  unfold rFill
  show Scalar.select (rOk n1 (rCol n x) (ix3 a b q)) _ _ = _
  rw [rOk_apply n1 _ _ (by omega) (fun q => by rw [hc]; have := hx q; omega)]
  show Host.gather (lastDims 8 3 N 82944 wf) g (rCol n x) (ix3 a b q) = _
  exact gather_last wf g _ a b q _ hN (by rw [hc])

theorem ad_lt (q : Fin 82944) : (ad a1 a2 a3 q).toNat < 262144 := Cert.Proof.I.faS_lt _ _

/-- A sample: the image at the site's pixel, times one inside the image and zero outside. -/
theorem rSmp_apply (a : Fin 8) (b : Fin 3) (q : Fin 82944) :
    rSmp a0 a1 a2 a3 (ix3 a b q) = rImg a0 (ix3 a b ⟨(ad a1 a2 a3 q).toNat, ad_lt a1 a2 a3 q⟩) * (if In a1 a2 a3 q then 1 else 0) := by
  have hx : ∀ q : Fin 82944, (rAD a1 a2 a3 (ix1 q)).toNat < 262144 := fun q => by rw [rAD_apply]; exact ad_lt a1 a2 a3 q
  unfold rSmp
  refine congrArg₂ (fun x y : EReal => x * y) ?_ ?_
  · refine (take_apply _ (rImg a0) 262144#32 262143#32 (rAD a1 a2 a3) rfl (by norm_num) hx a b q).trans ?_
    simp only [rAD_apply]
  · rw [← rVD_apply]
    rw [broadcastInDim_apply _ _ _ _ (ix3 (0 : Fin 1) (0 : Fin 1) q)
      (fun e => by match e with | ⟨0, _⟩ => rfl | ⟨1, _⟩ => rfl | ⟨2, _⟩ => rfl)]
    exact broadcastInDim_apply _ _ _ _ (ix1 q) (fun e => by match e with | ⟨0, _⟩ => rfl)

variable (hk : ∀ i, (a4 i).toNat < 82944)

theorem rKN_apply (n : Fin 9216) (k : Fin 9) (h : 9 * n.val + k.val < 82944) : rKN a4 (ix1 ⟨9 * n.val + k.val, h⟩) = a4 (ix2 n k) := by
  unfold rKN
  exact shapeCast_apply _ _ _ _ (by rw [Shape.rowMajor_val_one, Shape.rowMajor_val_two]; show n.val * 9 + k.val = 9 * n.val + k.val; omega)

/-- The reference's result at channel `(a, b)` and site `n`: the mean of the samples at the site's nine neighbours. -/
theorem rRes_apply (a : Fin 8) (b : Fin 3) (n : Fin 9216) :
    rRes a0 a1 a2 a3 a4 (ix3 a b n)
      = Ideal.div (∑ k : Fin 9, rSmp a0 a1 a2 a3 (ix3 a b ⟨(a4 (ix2 n k)).toNat, hk _⟩)) (Ideal.ofBits .f32 0x41100000#32) := by
  have hx : ∀ q : Fin 82944, (rKN a4 (ix1 q)).toNat < 82944 := fun q => hk _
  unfold rRes
  refine congrArg₂ Ideal.div ?_ rfl
  rw [Host.reduceAdd_apply]
  refine (Ideal.hostReduceAdd_r4_a3 _ _ _ _).trans ?_
  refine (congrArg₂ (fun x y : EReal => x + y) (show _ = (0 : EReal) from ?_) (Finset.sum_congr rfl fun k _ => ?_)).trans (zero_add _)
  · exact Ideal.ofBits_zero_f32
  · have hnk : 9 * n.val + k.val < 82944 := by have := n.isLt; have := k.isLt; omega
    rw [shapeCast_apply _ _ _ (ix3 a b ⟨9 * n.val + k.val, hnk⟩)
      (by rw [Shape.rowMajor_val_three, Shape.rowMajor_val_four]
          show (a.val * 3 + b.val) * 82944 + (9 * n.val + k.val) = ((a.val * 3 + b.val) * 9216 + n.val) * 9 + k.val
          omega)]
    unfold rNb
    refine (take_apply _ (rSmp a0 a1 a2 a3) 82944#32 82943#32 (rKN a4) rfl (by norm_num) hx a b _).trans ?_
    simp only [rKN_apply]

end Cert.Proof.R

end
-- ==== Proof.VIn.lean ====
/-
  What the tiles read, in terms of the arguments: the neighbour indices, the grid coordinates, the image planes and the
  three parameters.
-/
module

public import proofs.«01_k».proof.Proof.IMem
public import proofs.«01_k».proof.Proof.VRef

@[expose] public section

noncomputable section

namespace Cert.Proof.I

open Cert.KernelIdeal Cert.KernelIdeal.Gen
open Idealize.ShloMosaic
open Idealize.ShloMosaic.StableHlo (after)

variable {F : FTy → Type} [FloatOps F] [Named F]

/-- An index of a one-axis array by its position. -/
theorem lin_eq_ix1 {n : ℕ} [NeZero n] (k : Fin n) : lin n k.val = ix1 k := idx1_ext (Nat.mod_eq_of_lt k.isLt)

/-! ## The neighbour indices -/

/-- Sample `x` of tile `2 s + c` is entry `(2 s + c, x)` of the transposed indices. -/
theorem kn_apply (A : In F) (c : Fin 2) (s : Fin 16) (w : Fin 32) (hw : w.val = 2 * s.val + c.val) (x : Fin 2592) :
    A.kn (pt c s) (ix1 x) = A.knn (ix2 w x) := by
  have hr : Shape.reshapeEquiv (s := S1x2592) (s' := S2592) rfl (ix1 x) = ix2 (0 : Fin 1) x :=
    Shape.reshapeEquiv_eq_of_rowMajor _ (by
      rw [Shape.rowMajor_val_two, Shape.rowMajor_val_one]
      show 0 * 2592 + x.val = x.val
      omega)
  have ho := off1_eq c s
  unfold In.kn
  show A.knn _ = A.knn _
  refine congrArg A.knn (funext fun a => Fin.ext ?_)
  match a with
  | ⟨0, _⟩ =>
    show k0_off1 (pt c s) 0 + 1 * (Shape.reshapeEquiv (s := S1x2592) (s' := S2592) _ (ix1 x) 0).val = w.val
    rw [hr, ho, hw]
    rfl
  | ⟨1, _⟩ =>
    show k0_off1 (pt c s) 1 + 1 * (Shape.reshapeEquiv (s := S1x2592) (s' := S2592) _ (ix1 x) 1).val = x.val
    rw [hr, ho]
    show 0 + 1 * x.val = x.val
    omega

variable (m : (ℓ : Loc nD τ sig) → Buf (Elt F) ℓ) (d : Dev nD)

/-- Entry `(w, 288 k + j)` of the transposed indices is neighbour `k` of site `288 w + j`. -/
theorem knn_apply (w : Fin 32) (j : Fin 288) (k : Fin 9) (x : Fin 2592) (n : Fin 9216) (hx : x.val = 288 * k.val + j.val) (hn : n.val = 288 * w.val + j.val) :
    (inM m d).knn (ix2 w x) = arg4 m d (ix2 n k) := by
  rw [inM_knn]
  rw [shapeCast_apply _ _ _ (ix3 w k j) (by
    rw [Shape.rowMajor_val_three, Shape.rowMajor_val_two]
    show (w.val * 9 + k.val) * 288 + j.val = w.val * 2592 + x.val
    omega)]
  rw [transpose_apply _ _ _ _ (ix3 w j k) (fun a => by match a with | ⟨0, _⟩ => rfl | ⟨1, _⟩ => rfl | ⟨2, _⟩ => rfl)]
  exact shapeCast_apply _ _ _ _ (by
    rw [Shape.rowMajor_val_three, Shape.rowMajor_val_two]
    show n.val * 9 + k.val = (w.val * 288 + j.val) * 9 + k.val
    omega)

/-! ## Coordinates and image -/

theorem grid_col (a3 : S82944x2.Idx → F .f32) (o : ℕ) (k : Fin 2) (e : o = k.val) (h : S82944x2.Slices ![0, o] S82944x1) (q : Fin 82944) :
    shapeCast S82944 (extractStridedSlice S82944x1 ![0, o] a3 h) shapeCasts_S82944x1_S82944 (ix1 q) = a3 (ix2 q k) := by
  subst e
  rw [shapeCast_apply _ _ _ (ix2 q (0 : Fin 1)) (by rw [Shape.rowMajor_val_one, Shape.rowMajor_val_two]; show q.val * 1 + 0 = q.val; omega)]
  exact extractStridedSlice_apply _ _ _ _ _ (fun a => by
    match a with
    | ⟨0, _⟩ => exact (Nat.zero_add _).symm
    | ⟨1, _⟩ => rfl)

theorem gx_apply (q : Fin 82944) : (inM m d).gx (ix1 q) = arg3 m d (ix2 q 0) := by rw [inM_gx, grid_col _ 0 0 rfl]
theorem gy_apply (q : Fin 82944) : (inM m d).gy (ix1 q) = arg3 m d (ix2 q 1) := by rw [inM_gy, grid_col _ 1 1 rfl]

/-- Element `262144 (3 a + b) + k` of the flat image is element `k` of channel `(a, b)`. -/
theorem img_apply (h : S8x3x512x512.ShapeCasts ⟨3, ![8, 3, 262144]⟩) (a : Fin 8) (b : Fin 3) (k : Fin 262144) :
    (inM m d).img (lin 6291456 (262144 * (3 * a.val + b.val) + k.val)) = shapeCast ⟨3, ![8, 3, 262144]⟩ (arg0 m d) h (ix3 a b k) := by
  have hs : shapeCast S6291456 (arg0 m d) shapeCasts_S8x3x512x512_S6291456
      = shapeCast S6291456 (shapeCast ⟨3, ![8, 3, 262144]⟩ (arg0 m d) h) (h.symm.trans shapeCasts_S8x3x512x512_S6291456) :=
    (shapeCast_comp _ _ _).symm
  rw [inM_img, hs]
  have := a.isLt
  have := b.isLt
  have := k.isLt
  exact shapeCast_apply _ _ _ _ (by
    rw [Shape.rowMajor_val_three, Shape.rowMajor_val_one, lin_val _ _ (by omega)]
    show (a.val * 3 + b.val) * 262144 + k.val = _
    omega)

/-! ## The parameters -/

/-- The three rows of parameters: the two fixation coordinates and the scale, each sixteen times. -/
theorem inM_par : (inM m d).par = concatenate S3x16 0
    [⟨S1x16, broadcastInDim S1x16 ![1] bcast_S16_S1x16_1 (broadcastInDim S16 ![] bcast_S_S16 (shapeCast S_ (extractStridedSlice S1 ![0] (arg1 m d) slices_S2_S1_0) shapeCasts_S1_S_))⟩,
     ⟨S1x16, broadcastInDim S1x16 ![1] bcast_S16_S1x16_1 (broadcastInDim S16 ![] bcast_S_S16 (shapeCast S_ (extractStridedSlice S1 ![1] (arg1 m d) slices_S2_S1_1) shapeCasts_S1_S_))⟩,
     ⟨S1x16, broadcastInDim S1x16 ![1] bcast_S16_S1x16_1 (broadcastInDim S16 ![] bcast_S_S16 (Host.divf (sitofp .f32 (arg2 m d)) (constant S_ .f32 0x40000000#32)))⟩]
    concatenates_S1x16_S1x16_S1x16_S3x16_d0 := by
  show mem1 m d (at' main_v20) = _
  unfold mem1 opsIn; after_results; rfl

/-- A scalar laid along a row, anywhere. -/
theorem row_apply (x : S_.Idx → F .f32) (i : S1x16.Idx) : broadcastInDim S1x16 ![1] bcast_S16_S1x16_1 (broadcastInDim S16 ![] bcast_S_S16 x) i = x ix0 := by
  refine (broadcastInDim_apply _ _ _ _ (ix1 (i 1 : Fin 16)) (fun a => by match a with | ⟨0, _⟩ => rfl)).trans ?_
  exact broadcastInDim_apply _ _ _ _ _ (fun a => a.elim0)

theorem fix_val (a1 : S2.Idx → F .f32) (o : ℕ) (k : Fin 2) (e : o = k.val) (h : S2.Slices ![o] S1) :
    shapeCast S_ (extractStridedSlice S1 ![o] a1 h) shapeCasts_S1_S_ ix0 = a1 (ix1 k) := by
  subst e
  rw [shapeCast_apply _ _ _ (ix1 (0 : Fin 1)) (by rw [Shape.rowMajor_val_one, rowMajor_val0]; rfl)]
  exact extractStridedSlice_apply _ _ _ _ _ (fun a => by match a with | ⟨0, _⟩ => rfl)

/-- A row of three rows put one under the other. -/
theorem rows_apply (x y z : S1x16.Idx → F .f32) (l : Fin 16) :
    concatenate S3x16 0 [⟨S1x16, x⟩, ⟨S1x16, y⟩, ⟨S1x16, z⟩] concatenates_S1x16_S1x16_S1x16_S3x16_d0 (ix2 0 l) = x (ix2 0 l)
    ∧ concatenate S3x16 0 [⟨S1x16, x⟩, ⟨S1x16, y⟩, ⟨S1x16, z⟩] concatenates_S1x16_S1x16_S1x16_S3x16_d0 (ix2 1 l) = y (ix2 0 l)
    ∧ concatenate S3x16 0 [⟨S1x16, x⟩, ⟨S1x16, y⟩, ⟨S1x16, z⟩] concatenates_S1x16_S1x16_S1x16_S3x16_d0 (ix2 2 l) = z (ix2 0 l) := by
  have off : ∀ (r : Fin 3) (b : Fin S1x16.rank), b.cast (rfl : S1x16.rank = S3x16.rank) ≠ (0 : Fin S3x16.rank)
      → ((ix2 (0 : Fin 1) l : S1x16.Idx) b).val = ((ix2 r l : S3x16.Idx) (b.cast rfl)).val := fun r b hb => by
    match b with
    | ⟨0, _⟩ => exact absurd rfl hb
    | ⟨1, _⟩ => rfl
  refine ⟨?_, ?_, ?_⟩
  · exact concatenate_apply_piece (t := S3x16) 0 _ _ _ 0 (by show 0 < 3; omega) S1x16 x rfl rfl 0 rfl _ (off 0) rfl
  · exact concatenate_apply_piece (t := S3x16) 0 _ _ _ 1 (by show 1 < 3; omega) S1x16 y rfl rfl 1 rfl _ (off 1) rfl
  · exact concatenate_apply_piece (t := S3x16) 0 _ _ _ 2 (by show 2 < 3; omega) S1x16 z rfl rfl 2 rfl _ (off 2) rfl

theorem par0 (l : Fin 16) : (inM m d).par (ix2 0 l) = arg1 m d (ix1 0) := by
  rw [inM_par, (rows_apply _ _ _ l).1, row_apply, fix_val _ 0 0 rfl]
theorem par1 (l : Fin 16) : (inM m d).par (ix2 1 l) = arg1 m d (ix1 1) := by
  rw [inM_par, (rows_apply _ _ _ l).2.1, row_apply, fix_val _ 1 1 rfl]
theorem par2 (l : Fin 16) : (inM m d).par (ix2 2 l) = Host.divf (sitofp .f32 (arg2 m d)) (constant S_ .f32 0x40000000#32) ix0 := by
  rw [inM_par, (rows_apply _ _ _ l).2.2, row_apply]

/-- A loaded row of parameters, at a lane. -/
theorem lane_eq (l : Fin 16) : Shape.reshapeEquiv (s := S1x16) (s' := S16) rfl (ix1 l) = ix2 (0 : Fin 1) l :=
  Shape.reshapeEquiv_eq_of_rowMajor _ (by
    rw [Shape.rowMajor_val_two, Shape.rowMajor_val_one]
    show 0 * 16 + l.val = l.val
    omega)

theorem u_apply (A : In F) (l : Fin 16) : k0_pay29 A.r0 (ix1 l) = A.par (ix2 0 l) := by
  unfold k0_pay29
  rw [Pointwise.shapeCast_apply, lane_eq]
  exact congrArg A.par (funext fun a => Fin.ext (by match a with | ⟨0, _⟩ => rfl | ⟨1, _⟩ => show 0 + 1 * l.val = l.val; omega))
theorem v_apply (A : In F) (l : Fin 16) : k0_pay30 A.r1 (ix1 l) = A.par (ix2 1 l) := by
  unfold k0_pay30
  rw [Pointwise.shapeCast_apply, lane_eq]
  exact congrArg A.par (funext fun a => Fin.ext (by match a with | ⟨0, _⟩ => rfl | ⟨1, _⟩ => show 0 + 1 * l.val = l.val; omega))
theorem s_apply (A : In F) (l : Fin 16) : k0_pay31 A.r2 (ix1 l) = A.par (ix2 2 l) := by
  unfold k0_pay31
  rw [Pointwise.shapeCast_apply, lane_eq]
  exact congrArg A.par (funext fun a => Fin.ext (by match a with | ⟨0, _⟩ => rfl | ⟨1, _⟩ => show 0 + 1 * l.val = l.val; omega))

end Cert.Proof.I

end
-- ==== Proof.VBridge.lean ====
/-
  The kernel's result is the reference's: each sample with its weight is the reference's sample divided by nine, and a sum
  of nine such is the reference's mean.
-/
module

public import proofs.«01_k».proof.Proof.VIn
public import proofs.«01_k».proof.Proof.VRound

@[expose] public section

noncomputable section

namespace Cert.Proof.V

open Cert.KernelIdeal Cert.KernelIdeal.Gen Cert.Proof.I
open Idealize.ShloMosaic Idealize.ShloMosaic.WordCmp

local notation "𝔼" => Idealize.ShloMosaic.Ideal

/-! ## Weights and sums -/

/-- The weight of a pixel: a ninth inside the image, zero outside. -/
theorem wS_eq (px py : BitVec 32) : wS (F := 𝔼) px py = if Inside px ∧ Inside py then (((9 : ℝ)⁻¹ : ℝ) : EReal) else (0 : EReal) := by
  have hn : (Named.named κ "ninth" 0x3DE38E39#32 : 𝔼 .f32) = (((9 : ℝ)⁻¹ : ℝ) : EReal) :=
    IdealRules.named_const.ideal_named_scalar _ _ _ _ rfl
  have hc : ∀ b : BitVec 32, IntOp.andi (IntOp.cmpi .sge b 0#32) (IntOp.cmpi .sle b 511#32) = 1#1 ↔ Inside b := fun b => by
    unfold Inside
    simp only [IntOp.cmpi, andi_ofBool, ofBool_eq_one_iff, Bool.and_eq_true, BitVec.sle_eq_decide, decide_eq_true_eq]
    rfl
  have ha : ∀ a b c : BitVec 1, IntOp.andi (IntOp.andi a b) c = 1#1 ↔ (IntOp.andi a b = 1#1) ∧ c = 1#1 := by decide
  have hs : wS (F := 𝔼) px py = Scalar.select (IntOp.andi (IntOp.andi (IntOp.andi (IntOp.cmpi .sge px 0#32) (IntOp.cmpi .sle px 511#32))
      (IntOp.cmpi .sge py 0#32)) (IntOp.cmpi .sle py 511#32)) (Named.named κ "ninth" 0x3DE38E39#32 : 𝔼 .f32) (Ideal.ofBits .f32 0x00000000#32) := by
    unfold wS k0_pay33
    simp only [shapeCast_self]
    rfl
  have hb : ∀ a b c d : BitVec 1, IntOp.andi (IntOp.andi (IntOp.andi a b) c) d = 1#1 ↔ IntOp.andi a b = 1#1 ∧ IntOp.andi c d = 1#1 := by decide
  rw [hs, select_eq, hn, Ideal.ofBits_zero_f32]
  simp only [hb, hc]

/-- A sample times its weight, from the kernel's rounding, is the sample from the host's, times a ninth. -/
theorem weighed (f : BitVec 32 → EReal) (x y : EReal) :
    f (faS (kround (x + ((1 / 2 : ℝ) : EReal))) (kround (y + ((1 / 2 : ℝ) : EReal)))) * wS (F := 𝔼) (kround (x + ((1 / 2 : ℝ) : EReal))) (kround (y + ((1 / 2 : ℝ) : EReal)))
      = f (faS (rround x) (rround y)) * (if Inside (rround x) ∧ Inside (rround y) then 1 else 0) * (((9 : ℝ)⁻¹ : ℝ) : EReal) := by
  rw [wS_eq]
  rcases round_agree x with hx | ⟨hx, hx'⟩
  · rcases round_agree y with hy | ⟨hy, hy'⟩
    · rw [hx, hy]
      split_ifs <;> simp
    · rw [if_neg (fun h => hy h.2), if_neg (fun h => hy' h.2), mul_zero, mul_zero, zero_mul]
  · rw [if_neg (fun h => hx h.1), if_neg (fun h => hx' h.1), mul_zero, mul_zero, zero_mul]

/-- Nine products, as a sum. -/
theorem sum9_eq (a b : Fin 9 → 𝔼 .f32) : sum9 (F := 𝔼) a b = ∑ k : Fin 9, (a k * b k : EReal) := by
  rw [Fin.sum_univ_castSucc, Fin.sum_univ_eight]
  rfl

/-- Multiplication by a nonnegative real distributes over a sum. -/
theorem sum_mul_real {n : ℕ} (f : Fin n → EReal) (c : ℝ) (hc : 0 ≤ c) : ∑ k, f k * (c : EReal) = (∑ k, f k) * (c : EReal) := by
  induction n with
  | zero => simp
  | succ n ih =>
    rw [Fin.sum_univ_succ, Fin.sum_univ_succ, ih,
      EReal.right_distrib_of_nonneg_of_ne_top (by exact_mod_cast hc) (EReal.coe_ne_top c)]

/-- The word of nine. -/
theorem nine_word : Ideal.ofBits .f32 0x41100000#32 = ((9 : ℝ) : EReal) := by
  simp [Ideal.ofBits, Ideal.ieee, -EReal.coe_mul]; norm_num

/-! ## A tile's samples -/

variable (m : (ℓ : Loc nD τ sig) → Buf (Elt 𝔼) ℓ) (d : Dev nD)
variable (hr : ∀ i, (arg4 m d i).toNat < 82944)

section Tile

variable (c : Fin 2) (s : Fin 16) (k : Fin 9) (j : Fin 288) (n : Fin 9216) (hn : n.val = 288 * (2 * s.val + c.val) + j.val)

include hn

/-- Sample `288 k + j` of tile `2 s + c` is neighbour `k` of site `n = 288 (2 s + c) + j`. -/
theorem kn_eq : (inM m d).kn (pt c s) (lin 2592 (288 * k.val + j.val)) = arg4 m d (ix2 n k) := by
  have := k.isLt
  have := j.isLt
  have := c.isLt
  have := s.isLt
  have hx : lin 2592 (288 * k.val + j.val) = ix1 (⟨288 * k.val + j.val, by omega⟩ : Fin 2592) := idx1_ext (Nat.mod_eq_of_lt (by omega))
  rw [hx, kn_apply _ c s ⟨2 * s.val + c.val, by omega⟩ rfl]
  exact knn_apply m d _ j k _ n rfl hn

theorem gxs_eq : (inM m d).gxs (pt c s) (lin 2592 (288 * k.val + j.val)) = arg3 m d (ix2 ⟨(arg4 m d (ix2 n k)).toNat, hr _⟩ 0) := by
  unfold In.gxs
  rw [kn_eq m d c s k j n hn]
  refine Eq.trans ?_ (gx_apply m d ⟨_, hr _⟩)
  exact congrArg _ (idx1_ext (Nat.mod_eq_of_lt (hr _)))

theorem gys_eq : (inM m d).gys (pt c s) (lin 2592 (288 * k.val + j.val)) = arg3 m d (ix2 ⟨(arg4 m d (ix2 n k)).toNat, hr _⟩ 1) := by
  unfold In.gys
  rw [kn_eq m d c s k j n hn]
  refine Eq.trans ?_ (gy_apply m d ⟨_, hr _⟩)
  exact congrArg _ (idx1_ext (Nat.mod_eq_of_lt (hr _)))

/-- The rounded coordinates of a sample. -/
theorem px_eq : pxV (k0_pay29 (inM m d).r0) (k0_pay31 (inM m d).r2) ((inM m d).gxs (pt c s)) (lin 2592 (288 * k.val + j.val))
    = kround (R.hx (arg1 m d) (arg2 m d) (arg3 m d) ⟨(arg4 m d (ix2 n k)).toNat, hr _⟩ + ((1 / 2 : ℝ) : EReal)) := by
  unfold pxV
  rw [pxS_eq, gxs_eq m d hr c s k j n hn]
  generalize (lin 2592 (288 * k.val + j.val) 0).val = l
  rw [show lin 16 l = ix1 (⟨l % 16, Nat.mod_lt _ (by norm_num)⟩ : Fin 16) from idx1_ext rfl, u_apply, s_apply, par0, par2]
  rfl

theorem py_eq : pyV (k0_pay30 (inM m d).r1) (k0_pay31 (inM m d).r2) ((inM m d).gys (pt c s)) (lin 2592 (288 * k.val + j.val))
    = kround (R.hy (arg1 m d) (arg2 m d) (arg3 m d) ⟨(arg4 m d (ix2 n k)).toNat, hr _⟩ + ((1 / 2 : ℝ) : EReal)) := by
  unfold pyV
  rw [pyS_eq, gys_eq m d hr c s k j n hn]
  generalize (lin 2592 (288 * k.val + j.val) 0).val = l
  rw [show lin 16 l = ix1 (⟨l % 16, Nat.mod_lt _ (by norm_num)⟩ : Fin 16) from idx1_ext rfl, v_apply, s_apply, par1, par2, sub_eq_add_neg, ← neg_mul]
  rfl

/-- A sample with its weight is the reference's sample times a ninth. -/
theorem sample_eq (a : Fin 8) (b : Fin 3) :
    ((inM m d).at (pt c s) (3 * a.val + b.val) (lin 2592 (288 * k.val + j.val)) * (inM m d).w (pt c s) (lin 2592 (288 * k.val + j.val)) : EReal)
      = R.rSmp (arg0 m d) (arg1 m d) (arg2 m d) (arg3 m d) (ix3 a b ⟨(arg4 m d (ix2 n k)).toNat, hr _⟩) * (((9 : ℝ)⁻¹ : ℝ) : EReal) := by
  have hp := px_eq m d hr c s k j n hn
  have hq := py_eq m d hr c s k j n hn
  have key := weighed (fun t => (inM m d).img (lin 6291456 (262144 * (3 * a.val + b.val) + t.toNat)))
    (R.hx (arg1 m d) (arg2 m d) (arg3 m d) ⟨(arg4 m d (ix2 n k)).toNat, hr _⟩) (R.hy (arg1 m d) (arg2 m d) (arg3 m d) ⟨(arg4 m d (ix2 n k)).toNat, hr _⟩)
  rw [← hp, ← hq] at key
  refine Eq.trans key ?_
  rw [R.rSmp_apply]
  refine congrArg (fun t : EReal => t * _ * _) ?_
  exact img_apply m d _ a b ⟨_, R.ad_lt _ _ _ _⟩

end Tile

include hr

/-- The kernel's result is the reference's. -/
theorem out_eq : mem3 m d (at' main_v22) = R.rRes (arg0 m d) (arg1 m d) (arg2 m d) (arg3 m d) (arg4 m d) := by
  rw [mem3_out]
  refine funext fun i => ?_
  obtain ⟨a, b, n, rfl⟩ : ∃ (a : Fin 8) (b : Fin 3) (n : Fin 9216), i = ix3 a b n := ⟨i 0, i 1, i 2, funext fun e => by
    match e with | ⟨0, _⟩ => rfl | ⟨1, _⟩ => rfl | ⟨2, _⟩ => rfl⟩
  have := a.isLt
  have := b.isLt
  have := n.isLt
  have hn : n.val = 288 * (2 * (n.val / 576) + n.val / 288 % 2) + n.val % 288 := by omega
  have hs : n.val / 576 < 16 := by omega
  have hc : n.val / 288 % 2 < 2 := by omega
  have hj : n.val % 288 < 288 := by omega
  rw [R.rRes_apply _ _ _ _ _ hr, nine_word, Ideal.div_coe (by norm_num), one_div, ← sum_mul_real _ _ (by norm_num)]
  rw [shapeCast_apply _ _ _ (lin 221184 (9216 * (3 * a.val + b.val) + 288 * (2 * (n.val / 576) + n.val / 288 % 2) + n.val % 288)) (by
    rw [Shape.rowMajor_val_three, Shape.rowMajor_val_one, lin_val _ _ (by omega)]
    show _ = (a.val * 3 + b.val) * 9216 + n.val
    omega)]
  refine (OUT_at (inM m d) ⟨_, hc⟩ ⟨_, hs⟩ ⟨3 * a.val + b.val, by omega⟩ _ hj).trans ?_
  unfold In.out acc
  rw [sum9_eq]
  refine Finset.sum_congr rfl fun k _ => ?_
  rw [lin_val _ _ hj]
  exact sample_eq m d hr ⟨_, hc⟩ ⟨_, hs⟩ k ⟨_, hj⟩ n hn a b

end Cert.Proof.V

end
-- ==== Proof.lean ====
/-
  The claims of this directory, assembled: the frames of the kernel and of its ideal form, the reference's run, the named
  constant, and the equality of the two results over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KMem
public import proofs.«01_k».proof.Proof.IMem
public import proofs.«01_k».proof.Proof.VBridge
public import proofs.«01_k».proof.Proof.Gen.Pre_knn_in_range
public import Idealize.ShloMosaic.Adequacy
public import Idealize.ShloMosaic.Init

@[expose] public section

noncomputable section

namespace Cert.Proof

open Idealize.ShloMosaic Idealize.SL.Sem

/-- The reference runs, leaves its arguments as they were, and, declaring no semaphore, ends with every counter at zero. -/
theorem frameRef : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Idealize.ShloMosaic.Ideal) m ρ)

/-- The same under the claim's precondition, which the reference does not need. -/
theorem frameRefPre : Cert.quiescent_ReferenceIdeal_pre_knn_in_range := fun m ρ _ => frameRef m ρ trivial

/-- The constant 0.11111111 stands for the name `ninth`, which is 1/9 over the extended reals. -/
theorem preserves : Cert.preserves_Kernel_KernelIdeal :=
  IdealRules.named_const.statement Cert.KernelIdeal.κ "ninth" .f32 0x3DE38E39#32 ((9⁻¹ : ℝ) : EReal) rfl

/-- The kernel's ideal form and the reference, from memories that agree on the arguments, end with the same result. -/
theorem algebraic : Cert.algebraic_KernelIdeal_ReferenceIdeal := fun m g m' g' hpre h => by
  have hr : ∀ d i, (I.arg4 m d i).toNat < 82944 := fun d i => I.arg4_of_pre _ _ _ _ _ (hpre d) i
  refine ⟨fun c => I.mem3 m c (I.at' Cert.KernelIdeal.main_v22), ?_, ?_⟩
  · exact (θ_run Cert.KernelIdeal.defs _ _).mono
      (fun r q c => ⟨q.1 c Cert.KernelIdeal.main_v22,
        (q.1 c Cert.KernelIdeal.main_arg0).trans ((I.mem3_of_ne m c _ (by decide) (by decide)).trans (I.mem1_arg0 m c)),
        (q.1 c Cert.KernelIdeal.main_arg1).trans ((I.mem3_of_ne m c _ (by decide) (by decide)).trans (I.mem1_arg1 m c)),
        (q.1 c Cert.KernelIdeal.main_arg2).trans ((I.mem3_of_ne m c _ (by decide) (by decide)).trans (I.mem1_arg2 m c)),
        (q.1 c Cert.KernelIdeal.main_arg3).trans ((I.mem3_of_ne m c _ (by decide) (by decide)).trans (I.mem1_arg3 m c)),
        (q.1 c Cert.KernelIdeal.main_arg4).trans ((I.mem3_of_ne m c _ (by decide) (by decide)).trans (I.mem1_arg4 m c))⟩)
      (I.run_main (F := Idealize.ShloMosaic.Ideal) m g (I.inRange_of m hr))
  · refine (θ_run Cert.ReferenceIdeal.defs _ _).mono (fun r q c => ⟨(q c).1.trans ?_, (q c).2⟩)
      (Cert.ReferenceIdeal.Value.run (F := Idealize.ShloMosaic.Ideal) m' g')
    obtain ⟨h0, h1, h2, h3, h4⟩ := h c
    rw [R.res_eq, h0, h1, h2, h3, h4]
    exact (V.out_eq m c (hr c)).symm

/-- All the claims together. -/
theorem claim : Cert.Claim := ⟨Cert.Kernel.Gen.facts, Cert.KernelIdeal.Gen.facts, Cert.ReferenceIdeal.Gen.facts, Cert.Pre_knn_in_range.Gen.facts,
  K.frame, I.frame, frameRef, frameRefPre, preserves, algebraic⟩

end Cert.Proof

end
